-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluReferenceIdeal (m : (ℓ : Loc Cert.GluReferenceIdeal.nD Cert.GluReferenceIdeal.τ Cert.GluReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Resid (m : (ℓ : Loc Cert.Resid.nD Cert.Resid.τ Cert.Resid.sig) → Buf (Elt Bits) ℓ) : Prop :=
  True

def Pre_ResidIdeal (m : (ℓ : Loc Cert.ResidIdeal.nD Cert.ResidIdeal.τ Cert.ResidIdeal.sig) → Buf (Elt Ideal) ℓ) : Prop :=
  True

def Pre_ResidReferenceIdeal (m : (ℓ : Loc Cert.ResidReferenceIdeal.nD Cert.ResidReferenceIdeal.τ Cert.ResidReferenceIdeal.sig) → Buf (Elt Ideal) ℓ) : Prop :=
  True

def Pre_Cast (m : (ℓ : Loc Cert.Cast.nD Cert.Cast.τ Cert.Cast.sig) → Buf (Elt Bits) ℓ) : Prop :=
  True

def Pre_CastIdeal (m : (ℓ : Loc Cert.CastIdeal.nD Cert.CastIdeal.τ Cert.CastIdeal.sig) → Buf (Elt Ideal) ℓ) : Prop :=
  True

def Pre_CastReferenceIdeal (m : (ℓ : Loc Cert.CastReferenceIdeal.nD Cert.CastReferenceIdeal.τ Cert.CastReferenceIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstReferenceIdeal (m : (ℓ : Loc Cert.FirstReferenceIdeal.nD Cert.FirstReferenceIdeal.τ Cert.FirstReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Between (m : (ℓ : Loc Cert.Between.nD Cert.Between.τ Cert.Between.sig) → Buf (Elt Bits) ℓ) : Prop :=
  True

def Pre_BetweenIdeal (m : (ℓ : Loc Cert.BetweenIdeal.nD Cert.BetweenIdeal.τ Cert.BetweenIdeal.sig) → Buf (Elt Ideal) ℓ) : Prop :=
  True

def Pre_BetweenReferenceIdeal (m : (ℓ : Loc Cert.BetweenReferenceIdeal.nD Cert.BetweenReferenceIdeal.τ Cert.BetweenReferenceIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3)
      ∧ r.2.mem ((c.tc : Thread Cert.Glu.nD Cert.Glu.τ).loc Cert.Glu.main_arg4) = m ((c.tc : Thread Cert.Glu.nD Cert.Glu.τ).loc Cert.Glu.main_arg4))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
      ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1)
      ∧ r.2.mem ((c.tc : Thread Cert.GluReferenceIdeal.nD Cert.GluReferenceIdeal.τ).loc Cert.GluReferenceIdeal.main_arg2) = m ((c.tc : Thread Cert.GluReferenceIdeal.nD Cert.GluReferenceIdeal.τ).loc Cert.GluReferenceIdeal.main_arg2)
      ∧ r.2.mem ((c.tc : Thread Cert.GluReferenceIdeal.nD Cert.GluReferenceIdeal.τ).loc Cert.GluReferenceIdeal.main_arg3) = m ((c.tc : Thread Cert.GluReferenceIdeal.nD Cert.GluReferenceIdeal.τ).loc Cert.GluReferenceIdeal.main_arg3)
      ∧ r.2.mem ((c.tc : Thread Cert.GluReferenceIdeal.nD Cert.GluReferenceIdeal.τ).loc Cert.GluReferenceIdeal.main_arg4) = m ((c.tc : Thread Cert.GluReferenceIdeal.nD Cert.GluReferenceIdeal.τ).loc Cert.GluReferenceIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2))
      ∧ r.2.sem = fun _ => 0)

def quiescent_Resid [hResid : Cert.Resid.Facts] : Prop :=
  ∀ (m : (ℓ : Loc Cert.Resid.nD Cert.Resid.τ Cert.Resid.sig) → Buf (Elt Bits) ℓ) (g : Dev Cert.Resid.nD → PrngReg), Pre_Resid m →
    θ_run (Cert.Resid.defs (F := Bits)) (onTc (τ := Cert.Resid.τ) (Cert.Resid.main (F := Bits))) ⟨m, fun _ => 0, g⟩ (fun r => (∀ c : Dev Cert.Resid.nD,
      r.2.mem ((c.tc : Thread Cert.Resid.nD Cert.Resid.τ).loc Cert.Resid.main_arg0) = m ((c.tc : Thread Cert.Resid.nD Cert.Resid.τ).loc Cert.Resid.main_arg0)
      ∧ r.2.mem ((c.tc : Thread Cert.Resid.nD Cert.Resid.τ).loc Cert.Resid.main_arg1) = m ((c.tc : Thread Cert.Resid.nD Cert.Resid.τ).loc Cert.Resid.main_arg1)
      ∧ r.2.mem ((c.tc : Thread Cert.Resid.nD Cert.Resid.τ).loc Cert.Resid.main_arg2) = m ((c.tc : Thread Cert.Resid.nD Cert.Resid.τ).loc Cert.Resid.main_arg2)
      ∧ r.2.mem ((c.tc : Thread Cert.Resid.nD Cert.Resid.τ).loc Cert.Resid.main_arg3) = m ((c.tc : Thread Cert.Resid.nD Cert.Resid.τ).loc Cert.Resid.main_arg3)
      ∧ r.2.mem ((c.tc : Thread Cert.Resid.nD Cert.Resid.τ).loc Cert.Resid.main_arg4) = m ((c.tc : Thread Cert.Resid.nD Cert.Resid.τ).loc Cert.Resid.main_arg4))
      ∧ r.2.sem = fun _ => 0)

def quiescent_ResidIdeal [hResidIdeal : Cert.ResidIdeal.Facts] : Prop :=
  ∀ (m : (ℓ : Loc Cert.ResidIdeal.nD Cert.ResidIdeal.τ Cert.ResidIdeal.sig) → Buf (Elt Ideal) ℓ) (g : Dev Cert.ResidIdeal.nD → PrngReg), Pre_ResidIdeal m →
    θ_run (Cert.ResidIdeal.defs (F := Ideal)) (onTc (τ := Cert.ResidIdeal.τ) (Cert.ResidIdeal.main (F := Ideal))) ⟨m, fun _ => 0, g⟩ (fun r => (∀ c : Dev Cert.ResidIdeal.nD,
      r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
      ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
      ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2)
      ∧ r.2.mem ((c.tc : Thread Cert.ResidIdeal.nD Cert.ResidIdeal.τ).loc Cert.ResidIdeal.main_arg3) = m ((c.tc : Thread Cert.ResidIdeal.nD Cert.ResidIdeal.τ).loc Cert.ResidIdeal.main_arg3)
      ∧ r.2.mem ((c.tc : Thread Cert.ResidIdeal.nD Cert.ResidIdeal.τ).loc Cert.ResidIdeal.main_arg4) = m ((c.tc : Thread Cert.ResidIdeal.nD Cert.ResidIdeal.τ).loc Cert.ResidIdeal.main_arg4))
      ∧ r.2.sem = fun _ => 0)

def quiescent_ResidReferenceIdeal [hResidReferenceIdeal : Cert.ResidReferenceIdeal.Facts] : Prop :=
  ∀ (m : (ℓ : Loc Cert.ResidReferenceIdeal.nD Cert.ResidReferenceIdeal.τ Cert.ResidReferenceIdeal.sig) → Buf (Elt Ideal) ℓ) (g : Dev Cert.ResidReferenceIdeal.nD → PrngReg), Pre_ResidReferenceIdeal m →
    θ_run (Cert.ResidReferenceIdeal.defs (F := Ideal)) (onTc (τ := Cert.ResidReferenceIdeal.τ) (Cert.ResidReferenceIdeal.main (F := Ideal))) ⟨m, fun _ => 0, g⟩ (fun r => (∀ c : Dev Cert.ResidReferenceIdeal.nD,
      r.2.mem ((c.tc : Thread Cert.ResidReferenceIdeal.nD Cert.ResidReferenceIdeal.τ).loc Cert.ResidReferenceIdeal.main_arg0) = m ((c.tc : Thread Cert.ResidReferenceIdeal.nD Cert.ResidReferenceIdeal.τ).loc Cert.ResidReferenceIdeal.main_arg0)
      ∧ r.2.mem ((c.tc : Thread Cert.ResidReferenceIdeal.nD Cert.ResidReferenceIdeal.τ).loc Cert.ResidReferenceIdeal.main_arg1) = m ((c.tc : Thread Cert.ResidReferenceIdeal.nD Cert.ResidReferenceIdeal.τ).loc Cert.ResidReferenceIdeal.main_arg1)
      ∧ r.2.mem ((c.tc : Thread Cert.ResidReferenceIdeal.nD Cert.ResidReferenceIdeal.τ).loc Cert.ResidReferenceIdeal.main_arg2) = m ((c.tc : Thread Cert.ResidReferenceIdeal.nD Cert.ResidReferenceIdeal.τ).loc Cert.ResidReferenceIdeal.main_arg2)
      ∧ r.2.mem ((c.tc : Thread Cert.ResidReferenceIdeal.nD Cert.ResidReferenceIdeal.τ).loc Cert.ResidReferenceIdeal.main_arg3) = m ((c.tc : Thread Cert.ResidReferenceIdeal.nD Cert.ResidReferenceIdeal.τ).loc Cert.ResidReferenceIdeal.main_arg3)
      ∧ r.2.mem ((c.tc : Thread Cert.ResidReferenceIdeal.nD Cert.ResidReferenceIdeal.τ).loc Cert.ResidReferenceIdeal.main_arg4) = m ((c.tc : Thread Cert.ResidReferenceIdeal.nD Cert.ResidReferenceIdeal.τ).loc Cert.ResidReferenceIdeal.main_arg4))
      ∧ r.2.sem = fun _ => 0)

def quiescent_Cast [hCast : Cert.Cast.Facts] : Prop :=
  ∀ (m : (ℓ : Loc Cert.Cast.nD Cert.Cast.τ Cert.Cast.sig) → Buf (Elt Bits) ℓ) (g : Dev Cert.Cast.nD → PrngReg), Pre_Cast m →
    θ_run (Cert.Cast.defs (F := Bits)) (onTc (τ := Cert.Cast.τ) (Cert.Cast.main (F := Bits))) ⟨m, fun _ => 0, g⟩ (fun r => (∀ c : Dev Cert.Cast.nD,
      r.2.mem ((c.tc : Thread Cert.Cast.nD Cert.Cast.τ).loc Cert.Cast.main_arg0) = m ((c.tc : Thread Cert.Cast.nD Cert.Cast.τ).loc Cert.Cast.main_arg0)
      ∧ r.2.mem ((c.tc : Thread Cert.Cast.nD Cert.Cast.τ).loc Cert.Cast.main_arg1) = m ((c.tc : Thread Cert.Cast.nD Cert.Cast.τ).loc Cert.Cast.main_arg1)
      ∧ r.2.mem ((c.tc : Thread Cert.Cast.nD Cert.Cast.τ).loc Cert.Cast.main_arg2) = m ((c.tc : Thread Cert.Cast.nD Cert.Cast.τ).loc Cert.Cast.main_arg2)
      ∧ r.2.mem ((c.tc : Thread Cert.Cast.nD Cert.Cast.τ).loc Cert.Cast.main_arg3) = m ((c.tc : Thread Cert.Cast.nD Cert.Cast.τ).loc Cert.Cast.main_arg3))
      ∧ r.2.sem = fun _ => 0)

def quiescent_CastIdeal [hCastIdeal : Cert.CastIdeal.Facts] : Prop :=
  ∀ (m : (ℓ : Loc Cert.CastIdeal.nD Cert.CastIdeal.τ Cert.CastIdeal.sig) → Buf (Elt Ideal) ℓ) (g : Dev Cert.CastIdeal.nD → PrngReg), Pre_CastIdeal m →
    θ_run (Cert.CastIdeal.defs (F := Ideal)) (onTc (τ := Cert.CastIdeal.τ) (Cert.CastIdeal.main (F := Ideal))) ⟨m, fun _ => 0, g⟩ (fun r => (∀ c : Dev Cert.CastIdeal.nD,
      r.2.mem ((c.tc : Thread Cert.CastIdeal.nD Cert.CastIdeal.τ).loc Cert.CastIdeal.main_arg0) = m ((c.tc : Thread Cert.CastIdeal.nD Cert.CastIdeal.τ).loc Cert.CastIdeal.main_arg0)
      ∧ r.2.mem ((c.tc : Thread Cert.CastIdeal.nD Cert.CastIdeal.τ).loc Cert.CastIdeal.main_arg1) = m ((c.tc : Thread Cert.CastIdeal.nD Cert.CastIdeal.τ).loc Cert.CastIdeal.main_arg1)
      ∧ r.2.mem ((c.tc : Thread Cert.CastIdeal.nD Cert.CastIdeal.τ).loc Cert.CastIdeal.main_arg2) = m ((c.tc : Thread Cert.CastIdeal.nD Cert.CastIdeal.τ).loc Cert.CastIdeal.main_arg2)
      ∧ r.2.mem ((c.tc : Thread Cert.CastIdeal.nD Cert.CastIdeal.τ).loc Cert.CastIdeal.main_arg3) = m ((c.tc : Thread Cert.CastIdeal.nD Cert.CastIdeal.τ).loc Cert.CastIdeal.main_arg3))
      ∧ r.2.sem = fun _ => 0)

def quiescent_CastReferenceIdeal [hCastReferenceIdeal : Cert.CastReferenceIdeal.Facts] : Prop :=
  ∀ (m : (ℓ : Loc Cert.CastReferenceIdeal.nD Cert.CastReferenceIdeal.τ Cert.CastReferenceIdeal.sig) → Buf (Elt Ideal) ℓ) (g : Dev Cert.CastReferenceIdeal.nD → PrngReg), Pre_CastReferenceIdeal m →
    θ_run (Cert.CastReferenceIdeal.defs (F := Ideal)) (onTc (τ := Cert.CastReferenceIdeal.τ) (Cert.CastReferenceIdeal.main (F := Ideal))) ⟨m, fun _ => 0, g⟩ (fun r => (∀ c : Dev Cert.CastReferenceIdeal.nD,
      r.2.mem ((c.tc : Thread Cert.CastReferenceIdeal.nD Cert.CastReferenceIdeal.τ).loc Cert.CastReferenceIdeal.main_arg0) = m ((c.tc : Thread Cert.CastReferenceIdeal.nD Cert.CastReferenceIdeal.τ).loc Cert.CastReferenceIdeal.main_arg0)
      ∧ r.2.mem ((c.tc : Thread Cert.CastReferenceIdeal.nD Cert.CastReferenceIdeal.τ).loc Cert.CastReferenceIdeal.main_arg1) = m ((c.tc : Thread Cert.CastReferenceIdeal.nD Cert.CastReferenceIdeal.τ).loc Cert.CastReferenceIdeal.main_arg1)
      ∧ r.2.mem ((c.tc : Thread Cert.CastReferenceIdeal.nD Cert.CastReferenceIdeal.τ).loc Cert.CastReferenceIdeal.main_arg2) = m ((c.tc : Thread Cert.CastReferenceIdeal.nD Cert.CastReferenceIdeal.τ).loc Cert.CastReferenceIdeal.main_arg2)
      ∧ r.2.mem ((c.tc : Thread Cert.CastReferenceIdeal.nD Cert.CastReferenceIdeal.τ).loc Cert.CastReferenceIdeal.main_arg3) = m ((c.tc : Thread Cert.CastReferenceIdeal.nD Cert.CastReferenceIdeal.τ).loc Cert.CastReferenceIdeal.main_arg3))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1))
      ∧ r.2.sem = fun _ => 0)

def quiescent_FirstReferenceIdeal [hFirstReferenceIdeal : Cert.FirstReferenceIdeal.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0)
      ∧ r.2.mem ((c.tc : Thread Cert.FirstReferenceIdeal.nD Cert.FirstReferenceIdeal.τ).loc Cert.FirstReferenceIdeal.main_arg1) = m ((c.tc : Thread Cert.FirstReferenceIdeal.nD Cert.FirstReferenceIdeal.τ).loc Cert.FirstReferenceIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3))
      ∧ r.2.sem = fun _ => 0)

def quiescent_Between [hBetween : Cert.Between.Facts] : Prop :=
  ∀ (m : (ℓ : Loc Cert.Between.nD Cert.Between.τ Cert.Between.sig) → Buf (Elt Bits) ℓ) (g : Dev Cert.Between.nD → PrngReg), Pre_Between m →
    θ_run (Cert.Between.defs (F := Bits)) (onTc (τ := Cert.Between.τ) (Cert.Between.main (F := Bits))) ⟨m, fun _ => 0, g⟩ (fun r => (∀ c : Dev Cert.Between.nD,
      r.2.mem ((c.tc : Thread Cert.Between.nD Cert.Between.τ).loc Cert.Between.main_arg0) = m ((c.tc : Thread Cert.Between.nD Cert.Between.τ).loc Cert.Between.main_arg0)
      ∧ r.2.mem ((c.tc : Thread Cert.Between.nD Cert.Between.τ).loc Cert.Between.main_arg1) = m ((c.tc : Thread Cert.Between.nD Cert.Between.τ).loc Cert.Between.main_arg1)
      ∧ r.2.mem ((c.tc : Thread Cert.Between.nD Cert.Between.τ).loc Cert.Between.main_arg2) = m ((c.tc : Thread Cert.Between.nD Cert.Between.τ).loc Cert.Between.main_arg2)
      ∧ r.2.mem ((c.tc : Thread Cert.Between.nD Cert.Between.τ).loc Cert.Between.main_arg3) = m ((c.tc : Thread Cert.Between.nD Cert.Between.τ).loc Cert.Between.main_arg3)
      ∧ r.2.mem ((c.tc : Thread Cert.Between.nD Cert.Between.τ).loc Cert.Between.main_arg4) = m ((c.tc : Thread Cert.Between.nD Cert.Between.τ).loc Cert.Between.main_arg4)
      ∧ r.2.mem ((c.tc : Thread Cert.Between.nD Cert.Between.τ).loc Cert.Between.main_arg5) = m ((c.tc : Thread Cert.Between.nD Cert.Between.τ).loc Cert.Between.main_arg5))
      ∧ r.2.sem = fun _ => 0)

def quiescent_BetweenIdeal [hBetweenIdeal : Cert.BetweenIdeal.Facts] : Prop :=
  ∀ (m : (ℓ : Loc Cert.BetweenIdeal.nD Cert.BetweenIdeal.τ Cert.BetweenIdeal.sig) → Buf (Elt Ideal) ℓ) (g : Dev Cert.BetweenIdeal.nD → PrngReg), Pre_BetweenIdeal m →
    θ_run (Cert.BetweenIdeal.defs (F := Ideal)) (onTc (τ := Cert.BetweenIdeal.τ) (Cert.BetweenIdeal.main (F := Ideal))) ⟨m, fun _ => 0, g⟩ (fun r => (∀ c : Dev Cert.BetweenIdeal.nD,
      r.2.mem ((c.tc : Thread Cert.BetweenIdeal.nD Cert.BetweenIdeal.τ).loc Cert.BetweenIdeal.main_arg0) = m ((c.tc : Thread Cert.BetweenIdeal.nD Cert.BetweenIdeal.τ).loc Cert.BetweenIdeal.main_arg0)
      ∧ r.2.mem ((c.tc : Thread Cert.BetweenIdeal.nD Cert.BetweenIdeal.τ).loc Cert.BetweenIdeal.main_arg1) = m ((c.tc : Thread Cert.BetweenIdeal.nD Cert.BetweenIdeal.τ).loc Cert.BetweenIdeal.main_arg1)
      ∧ r.2.mem ((c.tc : Thread Cert.BetweenIdeal.nD Cert.BetweenIdeal.τ).loc Cert.BetweenIdeal.main_arg2) = m ((c.tc : Thread Cert.BetweenIdeal.nD Cert.BetweenIdeal.τ).loc Cert.BetweenIdeal.main_arg2)
      ∧ r.2.mem ((c.tc : Thread Cert.BetweenIdeal.nD Cert.BetweenIdeal.τ).loc Cert.BetweenIdeal.main_arg3) = m ((c.tc : Thread Cert.BetweenIdeal.nD Cert.BetweenIdeal.τ).loc Cert.BetweenIdeal.main_arg3)
      ∧ r.2.mem ((c.tc : Thread Cert.BetweenIdeal.nD Cert.BetweenIdeal.τ).loc Cert.BetweenIdeal.main_arg4) = m ((c.tc : Thread Cert.BetweenIdeal.nD Cert.BetweenIdeal.τ).loc Cert.BetweenIdeal.main_arg4)
      ∧ r.2.mem ((c.tc : Thread Cert.BetweenIdeal.nD Cert.BetweenIdeal.τ).loc Cert.BetweenIdeal.main_arg5) = m ((c.tc : Thread Cert.BetweenIdeal.nD Cert.BetweenIdeal.τ).loc Cert.BetweenIdeal.main_arg5))
      ∧ r.2.sem = fun _ => 0)

def quiescent_BetweenReferenceIdeal [hBetweenReferenceIdeal : Cert.BetweenReferenceIdeal.Facts] : Prop :=
  ∀ (m : (ℓ : Loc Cert.BetweenReferenceIdeal.nD Cert.BetweenReferenceIdeal.τ Cert.BetweenReferenceIdeal.sig) → Buf (Elt Ideal) ℓ) (g : Dev Cert.BetweenReferenceIdeal.nD → PrngReg), Pre_BetweenReferenceIdeal m →
    θ_run (Cert.BetweenReferenceIdeal.defs (F := Ideal)) (onTc (τ := Cert.BetweenReferenceIdeal.τ) (Cert.BetweenReferenceIdeal.main (F := Ideal))) ⟨m, fun _ => 0, g⟩ (fun r => (∀ c : Dev Cert.BetweenReferenceIdeal.nD,
      r.2.mem ((c.tc : Thread Cert.BetweenReferenceIdeal.nD Cert.BetweenReferenceIdeal.τ).loc Cert.BetweenReferenceIdeal.main_arg0) = m ((c.tc : Thread Cert.BetweenReferenceIdeal.nD Cert.BetweenReferenceIdeal.τ).loc Cert.BetweenReferenceIdeal.main_arg0)
      ∧ r.2.mem ((c.tc : Thread Cert.BetweenReferenceIdeal.nD Cert.BetweenReferenceIdeal.τ).loc Cert.BetweenReferenceIdeal.main_arg1) = m ((c.tc : Thread Cert.BetweenReferenceIdeal.nD Cert.BetweenReferenceIdeal.τ).loc Cert.BetweenReferenceIdeal.main_arg1)
      ∧ r.2.mem ((c.tc : Thread Cert.BetweenReferenceIdeal.nD Cert.BetweenReferenceIdeal.τ).loc Cert.BetweenReferenceIdeal.main_arg2) = m ((c.tc : Thread Cert.BetweenReferenceIdeal.nD Cert.BetweenReferenceIdeal.τ).loc Cert.BetweenReferenceIdeal.main_arg2)
      ∧ r.2.mem ((c.tc : Thread Cert.BetweenReferenceIdeal.nD Cert.BetweenReferenceIdeal.τ).loc Cert.BetweenReferenceIdeal.main_arg3) = m ((c.tc : Thread Cert.BetweenReferenceIdeal.nD Cert.BetweenReferenceIdeal.τ).loc Cert.BetweenReferenceIdeal.main_arg3)
      ∧ r.2.mem ((c.tc : Thread Cert.BetweenReferenceIdeal.nD Cert.BetweenReferenceIdeal.τ).loc Cert.BetweenReferenceIdeal.main_arg4) = m ((c.tc : Thread Cert.BetweenReferenceIdeal.nD Cert.BetweenReferenceIdeal.τ).loc Cert.BetweenReferenceIdeal.main_arg4)
      ∧ r.2.mem ((c.tc : Thread Cert.BetweenReferenceIdeal.nD Cert.BetweenReferenceIdeal.τ).loc Cert.BetweenReferenceIdeal.main_arg5) = m ((c.tc : Thread Cert.BetweenReferenceIdeal.nD Cert.BetweenReferenceIdeal.τ).loc Cert.BetweenReferenceIdeal.main_arg5))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3))
      ∧ r.2.sem = fun _ => 0)

def preserves_Kernel_KernelIdeal : Prop :=
  IdealRules.named_const.Statement Cert.KernelIdeal.κ "qscale" .f32 0x3E38AA3B#32 (((1 / 8) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)
      ∧ m' ((c.tc : Thread Cert.UpReferenceIdeal.nD Cert.UpReferenceIdeal.τ).loc Cert.UpReferenceIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v2_0)) (v1 : (c : Dev Cert.UpIdeal.nD) → Buf (Elt Ideal) ((c.tc : Thread Cert.UpIdeal.nD Cert.UpIdeal.τ).loc Cert.UpIdeal.main_v2_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2_0) = v0 c
          ∧ r.2.mem ((c.tc : Thread Cert.UpIdeal.nD Cert.UpIdeal.τ).loc Cert.UpIdeal.main_v2_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v8) = v0 c
          ∧ r.2.mem ((c.tc : Thread Cert.UpReferenceIdeal.nD Cert.UpReferenceIdeal.τ).loc Cert.UpReferenceIdeal.main_v12) = v1 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v3)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v3) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v1) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_Glu_GluIdeal : Prop :=
  True

def algebraic_GluIdeal_GluReferenceIdeal [hGluIdeal : Cert.GluIdeal.Facts] [hGluReferenceIdeal : Cert.GluReferenceIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluIdeal m →
    (∀ c : Dev Cert.GluIdeal.nD,
      m' ((c.tc : Thread Cert.GluReferenceIdeal.nD Cert.GluReferenceIdeal.τ).loc Cert.GluReferenceIdeal.main_arg0) = m ((c.tc : Thread Cert.GluIdeal.nD Cert.GluIdeal.τ).loc Cert.GluIdeal.main_arg0)
      ∧ m' ((c.tc : Thread Cert.GluReferenceIdeal.nD Cert.GluReferenceIdeal.τ).loc Cert.GluReferenceIdeal.main_arg1) = m ((c.tc : Thread Cert.GluIdeal.nD Cert.GluIdeal.τ).loc Cert.GluIdeal.main_arg1)
      ∧ m' ((c.tc : Thread Cert.GluReferenceIdeal.nD Cert.GluReferenceIdeal.τ).loc Cert.GluReferenceIdeal.main_arg2) = m ((c.tc : Thread Cert.GluIdeal.nD Cert.GluIdeal.τ).loc Cert.GluIdeal.main_arg2)
      ∧ m' ((c.tc : Thread Cert.GluReferenceIdeal.nD Cert.GluReferenceIdeal.τ).loc Cert.GluReferenceIdeal.main_arg3) = m ((c.tc : Thread Cert.GluIdeal.nD Cert.GluIdeal.τ).loc Cert.GluIdeal.main_arg3)
      ∧ m' ((c.tc : Thread Cert.GluReferenceIdeal.nD Cert.GluReferenceIdeal.τ).loc Cert.GluReferenceIdeal.main_arg4) = m ((c.tc : Thread Cert.GluIdeal.nD Cert.GluIdeal.τ).loc Cert.GluIdeal.main_arg4)) →
    ∃ (v0 : (c : Dev Cert.GluIdeal.nD) → Buf (Elt Ideal) ((c.tc : Thread Cert.GluIdeal.nD Cert.GluIdeal.τ).loc Cert.GluIdeal.main_v3)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v3) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
          ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v19) = v0 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0)
          ∧ r.2.mem ((c.tc : Thread Cert.GluReferenceIdeal.nD Cert.GluReferenceIdeal.τ).loc Cert.GluReferenceIdeal.main_arg1) = m' ((c.tc : Thread Cert.GluReferenceIdeal.nD Cert.GluReferenceIdeal.τ).loc Cert.GluReferenceIdeal.main_arg1)
          ∧ r.2.mem ((c.tc : Thread Cert.GluReferenceIdeal.nD Cert.GluReferenceIdeal.τ).loc Cert.GluReferenceIdeal.main_arg2) = m' ((c.tc : Thread Cert.GluReferenceIdeal.nD Cert.GluReferenceIdeal.τ).loc Cert.GluReferenceIdeal.main_arg2)
          ∧ r.2.mem ((c.tc : Thread Cert.GluReferenceIdeal.nD Cert.GluReferenceIdeal.τ).loc Cert.GluReferenceIdeal.main_arg3) = m' ((c.tc : Thread Cert.GluReferenceIdeal.nD Cert.GluReferenceIdeal.τ).loc Cert.GluReferenceIdeal.main_arg3)
          ∧ r.2.mem ((c.tc : Thread Cert.GluReferenceIdeal.nD Cert.GluReferenceIdeal.τ).loc Cert.GluReferenceIdeal.main_arg4) = m' ((c.tc : Thread Cert.GluReferenceIdeal.nD Cert.GluReferenceIdeal.τ).loc Cert.GluReferenceIdeal.main_arg4))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v3)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v6) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2))

def preserves_Resid_ResidIdeal : Prop :=
  True

def algebraic_ResidIdeal_ResidReferenceIdeal [hResidIdeal : Cert.ResidIdeal.Facts] [hResidReferenceIdeal : Cert.ResidReferenceIdeal.Facts] : Prop :=
  ∀ (m : (ℓ : Loc Cert.ResidIdeal.nD Cert.ResidIdeal.τ Cert.ResidIdeal.sig) → Buf (Elt Ideal) ℓ) (g : Dev Cert.ResidIdeal.nD → PrngReg)
    (m' : (ℓ : Loc Cert.ResidReferenceIdeal.nD Cert.ResidReferenceIdeal.τ Cert.ResidReferenceIdeal.sig) → Buf (Elt Ideal) ℓ) (g' : Dev Cert.ResidReferenceIdeal.nD → PrngReg), Pre_ResidIdeal m →
    (∀ c : Dev Cert.ResidIdeal.nD,
      m' ((c.tc : Thread Cert.ResidReferenceIdeal.nD Cert.ResidReferenceIdeal.τ).loc Cert.ResidReferenceIdeal.main_arg0) = m ((c.tc : Thread Cert.ResidIdeal.nD Cert.ResidIdeal.τ).loc Cert.ResidIdeal.main_arg0)
      ∧ m' ((c.tc : Thread Cert.ResidReferenceIdeal.nD Cert.ResidReferenceIdeal.τ).loc Cert.ResidReferenceIdeal.main_arg1) = m ((c.tc : Thread Cert.ResidIdeal.nD Cert.ResidIdeal.τ).loc Cert.ResidIdeal.main_arg1)
      ∧ m' ((c.tc : Thread Cert.ResidReferenceIdeal.nD Cert.ResidReferenceIdeal.τ).loc Cert.ResidReferenceIdeal.main_arg2) = m ((c.tc : Thread Cert.ResidIdeal.nD Cert.ResidIdeal.τ).loc Cert.ResidIdeal.main_arg2)
      ∧ m' ((c.tc : Thread Cert.ResidReferenceIdeal.nD Cert.ResidReferenceIdeal.τ).loc Cert.ResidReferenceIdeal.main_arg3) = m ((c.tc : Thread Cert.ResidIdeal.nD Cert.ResidIdeal.τ).loc Cert.ResidIdeal.main_arg3)
      ∧ m' ((c.tc : Thread Cert.ResidReferenceIdeal.nD Cert.ResidReferenceIdeal.τ).loc Cert.ResidReferenceIdeal.main_arg4) = m ((c.tc : Thread Cert.ResidIdeal.nD Cert.ResidIdeal.τ).loc Cert.ResidIdeal.main_arg4)) →
    ∃ (v0 : (c : Dev Cert.ResidIdeal.nD) → Buf (Elt Ideal) ((c.tc : Thread Cert.ResidIdeal.nD Cert.ResidIdeal.τ).loc Cert.ResidIdeal.main_v4)),
      θ_run (Cert.ResidIdeal.defs (F := Ideal)) (onTc (τ := Cert.ResidIdeal.τ) (Cert.ResidIdeal.main (F := Ideal))) ⟨m, fun _ => 0, g⟩ (fun r => ∀ c : Dev Cert.ResidIdeal.nD,
          r.2.mem ((c.tc : Thread Cert.ResidIdeal.nD Cert.ResidIdeal.τ).loc Cert.ResidIdeal.main_v4) = v0 c
          ∧ r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
          ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
          ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2)
          ∧ r.2.mem ((c.tc : Thread Cert.ResidIdeal.nD Cert.ResidIdeal.τ).loc Cert.ResidIdeal.main_arg3) = m ((c.tc : Thread Cert.ResidIdeal.nD Cert.ResidIdeal.τ).loc Cert.ResidIdeal.main_arg3)
          ∧ r.2.mem ((c.tc : Thread Cert.ResidIdeal.nD Cert.ResidIdeal.τ).loc Cert.ResidIdeal.main_arg4) = m ((c.tc : Thread Cert.ResidIdeal.nD Cert.ResidIdeal.τ).loc Cert.ResidIdeal.main_arg4))
      ∧ θ_run (Cert.ResidReferenceIdeal.defs (F := Ideal)) (onTc (τ := Cert.ResidReferenceIdeal.τ) (Cert.ResidReferenceIdeal.main (F := Ideal))) ⟨m', fun _ => 0, g'⟩ (fun r => ∀ c : Dev Cert.ResidReferenceIdeal.nD,
          r.2.mem ((c.tc : Thread Cert.ResidReferenceIdeal.nD Cert.ResidReferenceIdeal.τ).loc Cert.ResidReferenceIdeal.main_v27) = v0 c
          ∧ r.2.mem ((c.tc : Thread Cert.ResidReferenceIdeal.nD Cert.ResidReferenceIdeal.τ).loc Cert.ResidReferenceIdeal.main_arg0) = m' ((c.tc : Thread Cert.ResidReferenceIdeal.nD Cert.ResidReferenceIdeal.τ).loc Cert.ResidReferenceIdeal.main_arg0)
          ∧ r.2.mem ((c.tc : Thread Cert.ResidReferenceIdeal.nD Cert.ResidReferenceIdeal.τ).loc Cert.ResidReferenceIdeal.main_arg1) = m' ((c.tc : Thread Cert.ResidReferenceIdeal.nD Cert.ResidReferenceIdeal.τ).loc Cert.ResidReferenceIdeal.main_arg1)
          ∧ r.2.mem ((c.tc : Thread Cert.ResidReferenceIdeal.nD Cert.ResidReferenceIdeal.τ).loc Cert.ResidReferenceIdeal.main_arg2) = m' ((c.tc : Thread Cert.ResidReferenceIdeal.nD Cert.ResidReferenceIdeal.τ).loc Cert.ResidReferenceIdeal.main_arg2)
          ∧ r.2.mem ((c.tc : Thread Cert.ResidReferenceIdeal.nD Cert.ResidReferenceIdeal.τ).loc Cert.ResidReferenceIdeal.main_arg3) = m' ((c.tc : Thread Cert.ResidReferenceIdeal.nD Cert.ResidReferenceIdeal.τ).loc Cert.ResidReferenceIdeal.main_arg3)
          ∧ r.2.mem ((c.tc : Thread Cert.ResidReferenceIdeal.nD Cert.ResidReferenceIdeal.τ).loc Cert.ResidReferenceIdeal.main_arg4) = m' ((c.tc : Thread Cert.ResidReferenceIdeal.nD Cert.ResidReferenceIdeal.τ).loc Cert.ResidReferenceIdeal.main_arg4))

def preserves_Cast_CastIdeal : Prop :=
  True

def algebraic_CastIdeal_CastReferenceIdeal [hCastIdeal : Cert.CastIdeal.Facts] [hCastReferenceIdeal : Cert.CastReferenceIdeal.Facts] : Prop :=
  ∀ (m : (ℓ : Loc Cert.CastIdeal.nD Cert.CastIdeal.τ Cert.CastIdeal.sig) → Buf (Elt Ideal) ℓ) (g : Dev Cert.CastIdeal.nD → PrngReg)
    (m' : (ℓ : Loc Cert.CastReferenceIdeal.nD Cert.CastReferenceIdeal.τ Cert.CastReferenceIdeal.sig) → Buf (Elt Ideal) ℓ) (g' : Dev Cert.CastReferenceIdeal.nD → PrngReg), Pre_CastIdeal m →
    (∀ c : Dev Cert.CastIdeal.nD,
      m' ((c.tc : Thread Cert.CastReferenceIdeal.nD Cert.CastReferenceIdeal.τ).loc Cert.CastReferenceIdeal.main_arg0) = m ((c.tc : Thread Cert.CastIdeal.nD Cert.CastIdeal.τ).loc Cert.CastIdeal.main_arg0)
      ∧ m' ((c.tc : Thread Cert.CastReferenceIdeal.nD Cert.CastReferenceIdeal.τ).loc Cert.CastReferenceIdeal.main_arg1) = m ((c.tc : Thread Cert.CastIdeal.nD Cert.CastIdeal.τ).loc Cert.CastIdeal.main_arg1)
      ∧ m' ((c.tc : Thread Cert.CastReferenceIdeal.nD Cert.CastReferenceIdeal.τ).loc Cert.CastReferenceIdeal.main_arg2) = m ((c.tc : Thread Cert.CastIdeal.nD Cert.CastIdeal.τ).loc Cert.CastIdeal.main_arg2)
      ∧ m' ((c.tc : Thread Cert.CastReferenceIdeal.nD Cert.CastReferenceIdeal.τ).loc Cert.CastReferenceIdeal.main_arg3) = m ((c.tc : Thread Cert.CastIdeal.nD Cert.CastIdeal.τ).loc Cert.CastIdeal.main_arg3)) →
    ∃ (v0 : (c : Dev Cert.CastIdeal.nD) → Buf (Elt Ideal) ((c.tc : Thread Cert.CastIdeal.nD Cert.CastIdeal.τ).loc Cert.CastIdeal.main_v5_0)) (v1 : (c : Dev Cert.CastIdeal.nD) → Buf (Elt Ideal) ((c.tc : Thread Cert.CastIdeal.nD Cert.CastIdeal.τ).loc Cert.CastIdeal.main_v5_1)) (v2 : (c : Dev Cert.CastIdeal.nD) → Buf (Elt Ideal) ((c.tc : Thread Cert.CastIdeal.nD Cert.CastIdeal.τ).loc Cert.CastIdeal.main_v5_2)),
      θ_run (Cert.CastIdeal.defs (F := Ideal)) (onTc (τ := Cert.CastIdeal.τ) (Cert.CastIdeal.main (F := Ideal))) ⟨m, fun _ => 0, g⟩ (fun r => ∀ c : Dev Cert.CastIdeal.nD,
          r.2.mem ((c.tc : Thread Cert.CastIdeal.nD Cert.CastIdeal.τ).loc Cert.CastIdeal.main_v5_0) = v0 c
          ∧ r.2.mem ((c.tc : Thread Cert.CastIdeal.nD Cert.CastIdeal.τ).loc Cert.CastIdeal.main_v5_1) = v1 c
          ∧ r.2.mem ((c.tc : Thread Cert.CastIdeal.nD Cert.CastIdeal.τ).loc Cert.CastIdeal.main_v5_2) = v2 c
          ∧ r.2.mem ((c.tc : Thread Cert.CastIdeal.nD Cert.CastIdeal.τ).loc Cert.CastIdeal.main_arg0) = m ((c.tc : Thread Cert.CastIdeal.nD Cert.CastIdeal.τ).loc Cert.CastIdeal.main_arg0)
          ∧ r.2.mem ((c.tc : Thread Cert.CastIdeal.nD Cert.CastIdeal.τ).loc Cert.CastIdeal.main_arg1) = m ((c.tc : Thread Cert.CastIdeal.nD Cert.CastIdeal.τ).loc Cert.CastIdeal.main_arg1)
          ∧ r.2.mem ((c.tc : Thread Cert.CastIdeal.nD Cert.CastIdeal.τ).loc Cert.CastIdeal.main_arg2) = m ((c.tc : Thread Cert.CastIdeal.nD Cert.CastIdeal.τ).loc Cert.CastIdeal.main_arg2)
          ∧ r.2.mem ((c.tc : Thread Cert.CastIdeal.nD Cert.CastIdeal.τ).loc Cert.CastIdeal.main_arg3) = m ((c.tc : Thread Cert.CastIdeal.nD Cert.CastIdeal.τ).loc Cert.CastIdeal.main_arg3))
      ∧ θ_run (Cert.CastReferenceIdeal.defs (F := Ideal)) (onTc (τ := Cert.CastReferenceIdeal.τ) (Cert.CastReferenceIdeal.main (F := Ideal))) ⟨m', fun _ => 0, g'⟩ (fun r => ∀ c : Dev Cert.CastReferenceIdeal.nD,
          r.2.mem ((c.tc : Thread Cert.CastReferenceIdeal.nD Cert.CastReferenceIdeal.τ).loc Cert.CastReferenceIdeal.main_v1) = v0 c
          ∧ r.2.mem ((c.tc : Thread Cert.CastReferenceIdeal.nD Cert.CastReferenceIdeal.τ).loc Cert.CastReferenceIdeal.main_v4) = v1 c
          ∧ r.2.mem ((c.tc : Thread Cert.CastReferenceIdeal.nD Cert.CastReferenceIdeal.τ).loc Cert.CastReferenceIdeal.main_v7) = v2 c
          ∧ r.2.mem ((c.tc : Thread Cert.CastReferenceIdeal.nD Cert.CastReferenceIdeal.τ).loc Cert.CastReferenceIdeal.main_arg0) = m' ((c.tc : Thread Cert.CastReferenceIdeal.nD Cert.CastReferenceIdeal.τ).loc Cert.CastReferenceIdeal.main_arg0)
          ∧ r.2.mem ((c.tc : Thread Cert.CastReferenceIdeal.nD Cert.CastReferenceIdeal.τ).loc Cert.CastReferenceIdeal.main_arg1) = m' ((c.tc : Thread Cert.CastReferenceIdeal.nD Cert.CastReferenceIdeal.τ).loc Cert.CastReferenceIdeal.main_arg1)
          ∧ r.2.mem ((c.tc : Thread Cert.CastReferenceIdeal.nD Cert.CastReferenceIdeal.τ).loc Cert.CastReferenceIdeal.main_arg2) = m' ((c.tc : Thread Cert.CastReferenceIdeal.nD Cert.CastReferenceIdeal.τ).loc Cert.CastReferenceIdeal.main_arg2)
          ∧ r.2.mem ((c.tc : Thread Cert.CastReferenceIdeal.nD Cert.CastReferenceIdeal.τ).loc Cert.CastReferenceIdeal.main_arg3) = m' ((c.tc : Thread Cert.CastReferenceIdeal.nD Cert.CastReferenceIdeal.τ).loc Cert.CastReferenceIdeal.main_arg3))

def preserves_First_FirstIdeal : Prop :=
  True

def algebraic_FirstIdeal_FirstReferenceIdeal [hFirstIdeal : Cert.FirstIdeal.Facts] [hFirstReferenceIdeal : Cert.FirstReferenceIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstReferenceIdeal.nD Cert.FirstReferenceIdeal.τ Cert.FirstReferenceIdeal.sig) → Buf (Elt Ideal) ℓ) (g' : Dev Cert.FirstReferenceIdeal.nD → PrngReg), Pre_FirstIdeal m →
    (∀ c : Dev Cert.FirstIdeal.nD,
      m' ((c.tc : Thread Cert.FirstReferenceIdeal.nD Cert.FirstReferenceIdeal.τ).loc Cert.FirstReferenceIdeal.main_arg0) = m ((c.tc : Thread Cert.FirstIdeal.nD Cert.FirstIdeal.τ).loc Cert.FirstIdeal.main_arg0)
      ∧ m' ((c.tc : Thread Cert.FirstReferenceIdeal.nD Cert.FirstReferenceIdeal.τ).loc Cert.FirstReferenceIdeal.main_arg1) = m ((c.tc : Thread Cert.FirstIdeal.nD Cert.FirstIdeal.τ).loc Cert.FirstIdeal.main_arg1)) →
    ∃ (v0 : (c : Dev Cert.FirstIdeal.nD) → Buf (Elt Ideal) ((c.tc : Thread Cert.FirstIdeal.nD Cert.FirstIdeal.τ).loc Cert.FirstIdeal.main_v1)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v1) = v0 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1))
      ∧ θ_run (Cert.FirstReferenceIdeal.defs (F := Ideal)) (onTc (τ := Cert.FirstReferenceIdeal.τ) (Cert.FirstReferenceIdeal.main (F := Ideal))) ⟨m', fun _ => 0, g'⟩ (fun r => ∀ c : Dev Cert.FirstReferenceIdeal.nD,
          r.2.mem ((c.tc : Thread Cert.FirstReferenceIdeal.nD Cert.FirstReferenceIdeal.τ).loc Cert.FirstReferenceIdeal.main_v12) = v0 c
          ∧ r.2.mem ((c.tc : Thread Cert.FirstReferenceIdeal.nD Cert.FirstReferenceIdeal.τ).loc Cert.FirstReferenceIdeal.main_arg0) = m' ((c.tc : Thread Cert.FirstReferenceIdeal.nD Cert.FirstReferenceIdeal.τ).loc Cert.FirstReferenceIdeal.main_arg0)
          ∧ r.2.mem ((c.tc : Thread Cert.FirstReferenceIdeal.nD Cert.FirstReferenceIdeal.τ).loc Cert.FirstReferenceIdeal.main_arg1) = m' ((c.tc : Thread Cert.FirstReferenceIdeal.nD Cert.FirstReferenceIdeal.τ).loc Cert.FirstReferenceIdeal.main_arg1))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)) →
    ∃ (v0 : (c : Dev Cert.MixIdeal.nD) → Buf (Elt Ideal) ((c.tc : Thread Cert.MixIdeal.nD Cert.MixIdeal.τ).loc Cert.MixIdeal.main_v3)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v3) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v27) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3))

def preserves_Between_BetweenIdeal : Prop :=
  True

def algebraic_BetweenIdeal_BetweenReferenceIdeal [hBetweenIdeal : Cert.BetweenIdeal.Facts] [hBetweenReferenceIdeal : Cert.BetweenReferenceIdeal.Facts] : Prop :=
  ∀ (m : (ℓ : Loc Cert.BetweenIdeal.nD Cert.BetweenIdeal.τ Cert.BetweenIdeal.sig) → Buf (Elt Ideal) ℓ) (g : Dev Cert.BetweenIdeal.nD → PrngReg)
    (m' : (ℓ : Loc Cert.BetweenReferenceIdeal.nD Cert.BetweenReferenceIdeal.τ Cert.BetweenReferenceIdeal.sig) → Buf (Elt Ideal) ℓ) (g' : Dev Cert.BetweenReferenceIdeal.nD → PrngReg), Pre_BetweenIdeal m →
    (∀ c : Dev Cert.BetweenIdeal.nD,
      m' ((c.tc : Thread Cert.BetweenReferenceIdeal.nD Cert.BetweenReferenceIdeal.τ).loc Cert.BetweenReferenceIdeal.main_arg0) = m ((c.tc : Thread Cert.BetweenIdeal.nD Cert.BetweenIdeal.τ).loc Cert.BetweenIdeal.main_arg0)
      ∧ m' ((c.tc : Thread Cert.BetweenReferenceIdeal.nD Cert.BetweenReferenceIdeal.τ).loc Cert.BetweenReferenceIdeal.main_arg1) = m ((c.tc : Thread Cert.BetweenIdeal.nD Cert.BetweenIdeal.τ).loc Cert.BetweenIdeal.main_arg1)
      ∧ m' ((c.tc : Thread Cert.BetweenReferenceIdeal.nD Cert.BetweenReferenceIdeal.τ).loc Cert.BetweenReferenceIdeal.main_arg2) = m ((c.tc : Thread Cert.BetweenIdeal.nD Cert.BetweenIdeal.τ).loc Cert.BetweenIdeal.main_arg2)
      ∧ m' ((c.tc : Thread Cert.BetweenReferenceIdeal.nD Cert.BetweenReferenceIdeal.τ).loc Cert.BetweenReferenceIdeal.main_arg3) = m ((c.tc : Thread Cert.BetweenIdeal.nD Cert.BetweenIdeal.τ).loc Cert.BetweenIdeal.main_arg3)
      ∧ m' ((c.tc : Thread Cert.BetweenReferenceIdeal.nD Cert.BetweenReferenceIdeal.τ).loc Cert.BetweenReferenceIdeal.main_arg4) = m ((c.tc : Thread Cert.BetweenIdeal.nD Cert.BetweenIdeal.τ).loc Cert.BetweenIdeal.main_arg4)
      ∧ m' ((c.tc : Thread Cert.BetweenReferenceIdeal.nD Cert.BetweenReferenceIdeal.τ).loc Cert.BetweenReferenceIdeal.main_arg5) = m ((c.tc : Thread Cert.BetweenIdeal.nD Cert.BetweenIdeal.τ).loc Cert.BetweenIdeal.main_arg5)) →
    ∃ (v0 : (c : Dev Cert.BetweenIdeal.nD) → Buf (Elt Ideal) ((c.tc : Thread Cert.BetweenIdeal.nD Cert.BetweenIdeal.τ).loc Cert.BetweenIdeal.main_v5_0)) (v1 : (c : Dev Cert.BetweenIdeal.nD) → Buf (Elt Ideal) ((c.tc : Thread Cert.BetweenIdeal.nD Cert.BetweenIdeal.τ).loc Cert.BetweenIdeal.main_v5_1)),
      θ_run (Cert.BetweenIdeal.defs (F := Ideal)) (onTc (τ := Cert.BetweenIdeal.τ) (Cert.BetweenIdeal.main (F := Ideal))) ⟨m, fun _ => 0, g⟩ (fun r => ∀ c : Dev Cert.BetweenIdeal.nD,
          r.2.mem ((c.tc : Thread Cert.BetweenIdeal.nD Cert.BetweenIdeal.τ).loc Cert.BetweenIdeal.main_v5_0) = v0 c
          ∧ r.2.mem ((c.tc : Thread Cert.BetweenIdeal.nD Cert.BetweenIdeal.τ).loc Cert.BetweenIdeal.main_v5_1) = v1 c
          ∧ r.2.mem ((c.tc : Thread Cert.BetweenIdeal.nD Cert.BetweenIdeal.τ).loc Cert.BetweenIdeal.main_arg0) = m ((c.tc : Thread Cert.BetweenIdeal.nD Cert.BetweenIdeal.τ).loc Cert.BetweenIdeal.main_arg0)
          ∧ r.2.mem ((c.tc : Thread Cert.BetweenIdeal.nD Cert.BetweenIdeal.τ).loc Cert.BetweenIdeal.main_arg1) = m ((c.tc : Thread Cert.BetweenIdeal.nD Cert.BetweenIdeal.τ).loc Cert.BetweenIdeal.main_arg1)
          ∧ r.2.mem ((c.tc : Thread Cert.BetweenIdeal.nD Cert.BetweenIdeal.τ).loc Cert.BetweenIdeal.main_arg2) = m ((c.tc : Thread Cert.BetweenIdeal.nD Cert.BetweenIdeal.τ).loc Cert.BetweenIdeal.main_arg2)
          ∧ r.2.mem ((c.tc : Thread Cert.BetweenIdeal.nD Cert.BetweenIdeal.τ).loc Cert.BetweenIdeal.main_arg3) = m ((c.tc : Thread Cert.BetweenIdeal.nD Cert.BetweenIdeal.τ).loc Cert.BetweenIdeal.main_arg3)
          ∧ r.2.mem ((c.tc : Thread Cert.BetweenIdeal.nD Cert.BetweenIdeal.τ).loc Cert.BetweenIdeal.main_arg4) = m ((c.tc : Thread Cert.BetweenIdeal.nD Cert.BetweenIdeal.τ).loc Cert.BetweenIdeal.main_arg4)
          ∧ r.2.mem ((c.tc : Thread Cert.BetweenIdeal.nD Cert.BetweenIdeal.τ).loc Cert.BetweenIdeal.main_arg5) = m ((c.tc : Thread Cert.BetweenIdeal.nD Cert.BetweenIdeal.τ).loc Cert.BetweenIdeal.main_arg5))
      ∧ θ_run (Cert.BetweenReferenceIdeal.defs (F := Ideal)) (onTc (τ := Cert.BetweenReferenceIdeal.τ) (Cert.BetweenReferenceIdeal.main (F := Ideal))) ⟨m', fun _ => 0, g'⟩ (fun r => ∀ c : Dev Cert.BetweenReferenceIdeal.nD,
          r.2.mem ((c.tc : Thread Cert.BetweenReferenceIdeal.nD Cert.BetweenReferenceIdeal.τ).loc Cert.BetweenReferenceIdeal.main_v27) = v0 c
          ∧ r.2.mem ((c.tc : Thread Cert.BetweenReferenceIdeal.nD Cert.BetweenReferenceIdeal.τ).loc Cert.BetweenReferenceIdeal.main_v41) = v1 c
          ∧ r.2.mem ((c.tc : Thread Cert.BetweenReferenceIdeal.nD Cert.BetweenReferenceIdeal.τ).loc Cert.BetweenReferenceIdeal.main_arg0) = m' ((c.tc : Thread Cert.BetweenReferenceIdeal.nD Cert.BetweenReferenceIdeal.τ).loc Cert.BetweenReferenceIdeal.main_arg0)
          ∧ r.2.mem ((c.tc : Thread Cert.BetweenReferenceIdeal.nD Cert.BetweenReferenceIdeal.τ).loc Cert.BetweenReferenceIdeal.main_arg1) = m' ((c.tc : Thread Cert.BetweenReferenceIdeal.nD Cert.BetweenReferenceIdeal.τ).loc Cert.BetweenReferenceIdeal.main_arg1)
          ∧ r.2.mem ((c.tc : Thread Cert.BetweenReferenceIdeal.nD Cert.BetweenReferenceIdeal.τ).loc Cert.BetweenReferenceIdeal.main_arg2) = m' ((c.tc : Thread Cert.BetweenReferenceIdeal.nD Cert.BetweenReferenceIdeal.τ).loc Cert.BetweenReferenceIdeal.main_arg2)
          ∧ r.2.mem ((c.tc : Thread Cert.BetweenReferenceIdeal.nD Cert.BetweenReferenceIdeal.τ).loc Cert.BetweenReferenceIdeal.main_arg3) = m' ((c.tc : Thread Cert.BetweenReferenceIdeal.nD Cert.BetweenReferenceIdeal.τ).loc Cert.BetweenReferenceIdeal.main_arg3)
          ∧ r.2.mem ((c.tc : Thread Cert.BetweenReferenceIdeal.nD Cert.BetweenReferenceIdeal.τ).loc Cert.BetweenReferenceIdeal.main_arg4) = m' ((c.tc : Thread Cert.BetweenReferenceIdeal.nD Cert.BetweenReferenceIdeal.τ).loc Cert.BetweenReferenceIdeal.main_arg4)
          ∧ r.2.mem ((c.tc : Thread Cert.BetweenReferenceIdeal.nD Cert.BetweenReferenceIdeal.τ).loc Cert.BetweenReferenceIdeal.main_arg5) = m' ((c.tc : Thread Cert.BetweenReferenceIdeal.nD Cert.BetweenReferenceIdeal.τ).loc Cert.BetweenReferenceIdeal.main_arg5))

def preserves_Qkv_QkvIdeal : Prop :=
  True

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)
      ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2)
      ∧ m' ((c.tc : Thread Cert.QkvReferenceIdeal.nD Cert.QkvReferenceIdeal.τ).loc Cert.QkvReferenceIdeal.main_arg3) = m ((c.tc : Thread Cert.QkvIdeal.nD Cert.QkvIdeal.τ).loc Cert.QkvIdeal.main_arg3)) →
    ∃ (v0 : (c : Dev Cert.QkvIdeal.nD) → Buf (Elt Ideal) ((c.tc : Thread Cert.QkvIdeal.nD Cert.QkvIdeal.τ).loc Cert.QkvIdeal.main_v14)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v14) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v74) = v0 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hGlu : Cert.Glu.Facts) (hGluIdeal : Cert.GluIdeal.Facts) (hGluReferenceIdeal : Cert.GluReferenceIdeal.Facts) (hOut : Cert.Out.Facts) (hOutIdeal : Cert.OutIdeal.Facts) (hOutReferenceIdeal : Cert.OutReferenceIdeal.Facts) (hResid : Cert.Resid.Facts) (hResidIdeal : Cert.ResidIdeal.Facts) (hResidReferenceIdeal : Cert.ResidReferenceIdeal.Facts) (hCast : Cert.Cast.Facts) (hCastIdeal : Cert.CastIdeal.Facts) (hCastReferenceIdeal : Cert.CastReferenceIdeal.Facts) (hFirst : Cert.First.Facts) (hFirstIdeal : Cert.FirstIdeal.Facts) (hFirstReferenceIdeal : Cert.FirstReferenceIdeal.Facts) (hMix : Cert.Mix.Facts) (hMixIdeal : Cert.MixIdeal.Facts) (hMixReferenceIdeal : Cert.MixReferenceIdeal.Facts) (hBetween : Cert.Between.Facts) (hBetweenIdeal : Cert.BetweenIdeal.Facts) (hBetweenReferenceIdeal : Cert.BetweenReferenceIdeal.Facts) (hQkv : Cert.Qkv.Facts) (hQkvIdeal : Cert.QkvIdeal.Facts) (hQkvReferenceIdeal : Cert.QkvReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ quiescent_Glu (hGlu := hGlu)
    ∧ quiescent_GluIdeal (hGluIdeal := hGluIdeal)
    ∧ quiescent_GluReferenceIdeal (hGluReferenceIdeal := hGluReferenceIdeal)
    ∧ quiescent_Out (hOut := hOut)
    ∧ quiescent_OutIdeal (hOutIdeal := hOutIdeal)
    ∧ quiescent_OutReferenceIdeal (hOutReferenceIdeal := hOutReferenceIdeal)
    ∧ quiescent_Resid (hResid := hResid)
    ∧ quiescent_ResidIdeal (hResidIdeal := hResidIdeal)
    ∧ quiescent_ResidReferenceIdeal (hResidReferenceIdeal := hResidReferenceIdeal)
    ∧ quiescent_Cast (hCast := hCast)
    ∧ quiescent_CastIdeal (hCastIdeal := hCastIdeal)
    ∧ quiescent_CastReferenceIdeal (hCastReferenceIdeal := hCastReferenceIdeal)
    ∧ quiescent_First (hFirst := hFirst)
    ∧ quiescent_FirstIdeal (hFirstIdeal := hFirstIdeal)
    ∧ quiescent_FirstReferenceIdeal (hFirstReferenceIdeal := hFirstReferenceIdeal)
    ∧ quiescent_Mix (hMix := hMix)
    ∧ quiescent_MixIdeal (hMixIdeal := hMixIdeal)
    ∧ quiescent_MixReferenceIdeal (hMixReferenceIdeal := hMixReferenceIdeal)
    ∧ quiescent_Between (hBetween := hBetween)
    ∧ quiescent_BetweenIdeal (hBetweenIdeal := hBetweenIdeal)
    ∧ quiescent_BetweenReferenceIdeal (hBetweenReferenceIdeal := hBetweenReferenceIdeal)
    ∧ quiescent_Qkv (hQkv := hQkv)
    ∧ quiescent_QkvIdeal (hQkvIdeal := hQkvIdeal)
    ∧ quiescent_QkvReferenceIdeal (hQkvReferenceIdeal := hQkvReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Up_UpIdeal
    ∧ algebraic_UpIdeal_UpReferenceIdeal (hUpIdeal := hUpIdeal) (hUpReferenceIdeal := hUpReferenceIdeal)
    ∧ preserves_Down_DownIdeal
    ∧ algebraic_DownIdeal_DownReferenceIdeal (hDownIdeal := hDownIdeal) (hDownReferenceIdeal := hDownReferenceIdeal)
    ∧ preserves_Glu_GluIdeal
    ∧ algebraic_GluIdeal_GluReferenceIdeal (hGluIdeal := hGluIdeal) (hGluReferenceIdeal := hGluReferenceIdeal)
    ∧ preserves_Out_OutIdeal
    ∧ algebraic_OutIdeal_OutReferenceIdeal (hOutIdeal := hOutIdeal) (hOutReferenceIdeal := hOutReferenceIdeal)
    ∧ preserves_Resid_ResidIdeal
    ∧ algebraic_ResidIdeal_ResidReferenceIdeal (hResidIdeal := hResidIdeal) (hResidReferenceIdeal := hResidReferenceIdeal)
    ∧ preserves_Cast_CastIdeal
    ∧ algebraic_CastIdeal_CastReferenceIdeal (hCastIdeal := hCastIdeal) (hCastReferenceIdeal := hCastReferenceIdeal)
    ∧ preserves_First_FirstIdeal
    ∧ algebraic_FirstIdeal_FirstReferenceIdeal (hFirstIdeal := hFirstIdeal) (hFirstReferenceIdeal := hFirstReferenceIdeal)
    ∧ preserves_Mix_MixIdeal
    ∧ algebraic_MixIdeal_MixReferenceIdeal (hMixIdeal := hMixIdeal) (hMixReferenceIdeal := hMixReferenceIdeal)
    ∧ preserves_Between_BetweenIdeal
    ∧ algebraic_BetweenIdeal_BetweenReferenceIdeal (hBetweenIdeal := hBetweenIdeal) (hBetweenReferenceIdeal := hBetweenReferenceIdeal)
    ∧ preserves_Qkv_QkvIdeal
    ∧ algebraic_QkvIdeal_QkvReferenceIdeal (hQkvIdeal := hQkvIdeal) (hQkvReferenceIdeal := hQkvReferenceIdeal)
-- ==== Pre_finite_scores.lean ====
abbrev S4x4096x64x64 : Shape := ⟨4, ![4, 4096, 64, 64]⟩
abbrev S4x4096x8x64 : Shape := ⟨4, ![4, 4096, 8, 64]⟩
abbrev S64 : Shape := ⟨1, ![64]⟩
abbrev S_ : Shape := ⟨0, ![]⟩

class Facts : Prop where
  bcast_S_S4x4096x64x64 : S_.BroadcastsInDim S4x4096x64x64 (![] : Fin 0 → Fin S4x4096x64x64.rank)
  reducesTo_S4x4096x64x64_S_d0_1_2_3 : S4x4096x64x64.ReducesTo [0, 1, 2, 3] S_
  h_S_ : 0 < S_.numel
  bcast_S_S4x4096x8x64 : S_.BroadcastsInDim S4x4096x8x64 (![] : Fin 0 → Fin S4x4096x8x64.rank)
  reducesTo_S4x4096x8x64_S_d0_1_2_3 : S4x4096x8x64.ReducesTo [0, 1, 2, 3] S_
  bcast_S_S64 : S_.BroadcastsInDim S64 (![] : Fin 0 → Fin S64.rank)
  reducesTo_S64_S_d0 : S64.ReducesTo [0] S_

variable [Facts]

def fn {F : FTy → Type} [FloatOps F] (main_arg0 : FVec F S4x4096x64x64 .f32) (main_arg1 : FVec F S4x4096x8x64 .f32) (main_arg2 : FVec F S4x4096x8x64 .f32) (main_arg3 : FVec F S64 .f32) : IVec S_ 1 :=
  let main_v0 : FVec F S4x4096x64x64 .f32 := Host.absf main_arg0
  let main_cst : FVec F S_ .f32 := constant S_ .f32 0x7F800000#32
  let main_v1 : FVec F S4x4096x64x64 .f32 := broadcastInDim S4x4096x64x64 ![] bcast_S_S4x4096x64x64 main_cst
  let main_v2 : IVec S4x4096x64x64 1 := cmpf .olt main_v0 main_v1
  let main_c : IVec S_ 1 := constantI S_ 1 1#1
  let main_v3 : IVec S_ 1 := (fun x v => Host.reduce IntOp.andi x v reducesTo_S4x4096x64x64_S_d0_1_2_3 h_S_) main_v2 main_c
  let main_v4 : FVec F S4x4096x8x64 .f32 := Host.absf main_arg1
  let main_cst_0 : FVec F S_ .f32 := constant S_ .f32 0x7F800000#32
  let main_v5 : FVec F S4x4096x8x64 .f32 := broadcastInDim S4x4096x8x64 ![] bcast_S_S4x4096x8x64 main_cst_0
  let main_v6 : IVec S4x4096x8x64 1 := cmpf .olt main_v4 main_v5
  let main_c_1 : IVec S_ 1 := constantI S_ 1 1#1
  let main_v7 : IVec S_ 1 := (fun x v => Host.reduce IntOp.andi x v reducesTo_S4x4096x8x64_S_d0_1_2_3 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S4x4096x64x64 : Shape := ⟨4, ![4, 4096, 64, 64]⟩
abbrev S4x4096x8x64 : Shape := ⟨4, ![4, 4096, 8, 64]⟩
abbrev S64 : Shape := ⟨1, ![64]⟩
abbrev S16384x4096 : Shape := ⟨2, ![16384, 4096]⟩
abbrev S16384x512 : Shape := ⟨2, ![16384, 512]⟩
abbrev S16384x5120 : Shape := ⟨2, ![16384, 5120]⟩
abbrev S128x4096 : Shape := ⟨2, ![128, 4096]⟩
abbrev S128x512 : Shape := ⟨2, ![128, 512]⟩
abbrev S256x512 : Shape := ⟨2, ![256, 512]⟩
abbrev S128x128 : Shape := ⟨2, ![128, 128]⟩
abbrev S256x128 : Shape := ⟨2, ![256, 128]⟩
abbrev S128x256 : Shape := ⟨2, ![128, 256]⟩
abbrev S1 : Shape := ⟨1, ![1]⟩
abbrev S128 : Shape := ⟨1, ![128]⟩
abbrev S128x1 : Shape := ⟨2, ![128, 1]⟩

abbrev nBuf : Space → Nat
  | .hbm => 10
  | .vmem => 12
  | .smem => 1
  | _ => 0

abbrev bufTy : (tb : Table) → Fin (tcTables nBuf tb) → BufTy
  | .hbm, ⟨0, _⟩ => ⟨S4x4096x64x64, .f32⟩
  | .hbm, ⟨1, _⟩ => ⟨S4x4096x8x64, .f32⟩
  | .hbm, ⟨2, _⟩ => ⟨S4x4096x8x64, .f32⟩
  | .hbm, ⟨3, _⟩ => ⟨S64, .f32⟩
  | .hbm, ⟨4, _⟩ => ⟨S16384x4096, .f32⟩
  | .hbm, ⟨5, _⟩ => ⟨S16384x512, .f32⟩
  | .hbm, ⟨6, _⟩ => ⟨S16384x512, .f32⟩
  | .hbm, ⟨7, _⟩ => ⟨S16384x5120, .f32⟩
  | .hbm, ⟨8, _⟩ => ⟨S16384x5120, .bf16⟩
  | .hbm, ⟨9, _⟩ => ⟨S16384x4096, .bf16⟩
  | .local _ .vmem, ⟨0, _⟩ => ⟨S128x4096, .bf16⟩
  | .local _ .vmem, ⟨1, _⟩ => ⟨S128x4096, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S128x512, .bf16⟩
  | .local _ .vmem, ⟨9, _⟩ => ⟨S128x512, .bf16⟩
  | .local _ .vmem, ⟨10, _⟩ => ⟨S128x4096, .bf16⟩
  | .local _ .vmem, ⟨11, _⟩ => ⟨S128x4096, .bf16⟩
  | .local _ .smem, ⟨0, _⟩ => ⟨S64, .f32⟩
  | _, _ => ⟨S4x4096x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c8_i32 : BitVec 32 := 8#32
  let c0_i32 : BitVec 32 := 0#32
  ![v1.toNat, c8_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c8_i32 : BitVec 32 := 8#32
  let c0_i32_0 : BitVec 32 := 0#32
  ![v3.toNat, c8_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c9_i32 : BitVec 32 := 9#32
  let c0_i32 : BitVec 32 := 0#32
  ![v1.toNat, c9_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c9_i32 : BitVec 32 := 9#32
  let c0_i32_0 : BitVec 32 := 0#32
  ![v3.toNat, c9_i32.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "log2e" => some (((Real.log 2)⁻¹ : ℝ) : EReal)
  | "qscale" => some (((1 / 8) * (Real.log 2)⁻¹ : ℝ) : EReal)
  | _ => none
-- ==== ReferenceIdeal.lean ====
abbrev S4x4096x64x64 : Shape := ⟨4, ![4, 4096, 64, 64]⟩
abbrev S4x4096x8x64 : Shape := ⟨4, ![4, 4096, 8, 64]⟩
abbrev S64 : Shape := ⟨1, ![64]⟩
abbrev S4x32x128x8x8x64 : Shape := ⟨6, ![4, 32, 128, 8, 8, 64]⟩
abbrev S4x32x128x8x64 : Shape := ⟨5, ![4, 32, 128, 8, 64]⟩
abbrev S4x31x128x8x64 : Shape := ⟨5, ![4, 31, 128, 8, 64]⟩
abbrev S_ : Shape := ⟨0, ![]⟩
abbrev S4x32x256x8x64 : Shape := ⟨5, ![4, 32, 256, 8, 64]⟩
abbrev S4x32x8x256x128x8 : Shape := ⟨6, ![4, 32, 8, 256, 128, 8]⟩
abbrev S4x32x8x8x128x256 : Shape := ⟨6, ![4, 32, 8, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x32x1x1x128x256 : Shape := ⟨6, ![1, 32, 1, 1, 128, 256]⟩
abbrev S1x1x8x8x1x1 : Shape := ⟨6, ![1, 1, 8, 8, 1, 1]⟩
abbrev S4x32x8x8x128x1 : Shape := ⟨6, ![4, 32, 8, 8, 128, 1]⟩
abbrev S4x32x8x8x128x257 : Shape := ⟨6, ![4, 32, 8, 8, 128, 257]⟩
abbrev S4x32x8x8x128 : Shape := ⟨5, ![4, 32, 8, 8, 128]⟩
abbrev S4x32x8x64x8x128 : Shape := ⟨6, ![4, 32, 8, 64, 8, 128]⟩
abbrev S16384x4096 : Shape := ⟨2, ![16384, 4096]⟩

abbrev nBuf : Space → Nat
  | .hbm => 86
  | .vmem => 0
  | .smem => 0
  | _ => 0

abbrev bufTy : (tb : Table) → Fin (tcTables nBuf tb) → BufTy
  | .hbm, ⟨0, _⟩ => ⟨S4x4096x64x64, .f32⟩
  | .hbm, ⟨1, _⟩ => ⟨S4x4096x8x64, .f32⟩
  | .hbm, ⟨2, _⟩ => ⟨S4x4096x8x64, .f32⟩
  | .hbm, ⟨3, _⟩ => ⟨S64, .f32⟩
  | .hbm, ⟨4, _⟩ => ⟨S4x32x128x8x8x64, .f32⟩
  | .hbm, ⟨5, _⟩ => ⟨S4x32x128x8x64, .f32⟩
  | .hbm, ⟨6, _⟩ => ⟨S4x31x128x8x64, .f32⟩
  | .hbm, ⟨7, _⟩ => ⟨S_, .i32⟩
  | .hbm, ⟨8, _⟩ => ⟨S_, .f32⟩
  | .hbm, ⟨9, _⟩ => ⟨S4x32x128x8x64, .f32⟩
  | .hbm, ⟨10, _⟩ => ⟨S4x32x256x8x64, .f32⟩
  | .hbm, ⟨11, _⟩ => ⟨S4x32x128x8x64, .f32⟩
  | .hbm, ⟨12, _⟩ => ⟨S4x31x128x8x64, .f32⟩
  | .hbm, ⟨13, _⟩ => ⟨S_, .i32⟩
  | .hbm, ⟨14, _⟩ => ⟨S_, .f32⟩
  | .hbm, ⟨15, _⟩ => ⟨S4x32x128x8x64, .f32⟩
  | .hbm, ⟨16, _⟩ => ⟨S4x32x256x8x64, .f32⟩
  | .hbm, ⟨17, _⟩ => ⟨S4x32x8x256x128x8, .f32⟩
  | .hbm, ⟨18, _⟩ => ⟨S4x32x8x8x128x256, .f32⟩
  | .hbm, ⟨19, _⟩ => ⟨S_, .f32⟩
  | .hbm, ⟨20, _⟩ => ⟨S4x32x8x8x128x256, .f32⟩
  | .hbm, ⟨21, _⟩ => ⟨S4x32x8x8x128x256, .f32⟩
  | .hbm, ⟨22, _⟩ => ⟨S128, .i32⟩
  | .hbm, ⟨23, _⟩ => ⟨S128x1, .i32⟩
  | .hbm, ⟨24, _⟩ => ⟨S256, .i32⟩
  | .hbm, ⟨25, _⟩ => ⟨S1x256, .i32⟩
  | .hbm, ⟨26, _⟩ => ⟨S_, .i32⟩
  | .hbm, ⟨27, _⟩ => ⟨S128x1, .i32⟩
  | .hbm, ⟨28, _⟩ => ⟨S128x1, .i32⟩
  | .hbm, ⟨29, _⟩ => ⟨S128x256, .i32⟩
  | .hbm, ⟨30, _⟩ => ⟨S128x256, .i32⟩
  | .hbm, ⟨31, _⟩ => ⟨S128x256, .i32⟩
  | .hbm, ⟨32, _⟩ => ⟨S_, .i32⟩
  | .hbm, ⟨33, _⟩ => ⟨S128x256, .i32⟩
  | .hbm, ⟨34, _⟩ => ⟨S128x256, .i1⟩
  | .hbm, ⟨35, _⟩ => ⟨S_, .i32⟩
  | .hbm, ⟨36, _⟩ => ⟨S128x256, .i32⟩
  | .hbm, ⟨37, _⟩ => ⟨S128x256, .i1⟩
  | .hbm, ⟨38, _⟩ => ⟨S128x256, .i1⟩
  | .hbm, ⟨39, _⟩ => ⟨S32, .i32⟩
  | .hbm, ⟨40, _⟩ => ⟨S32x1x1, .i32⟩
  | .hbm, ⟨41, _⟩ => ⟨S_, .i32⟩
  | .hbm, ⟨42, _⟩ => ⟨S32x1x1, .i32⟩
  | .hbm, ⟨43, _⟩ => ⟨S32x1x1, .i32⟩
  | .hbm, ⟨44, _⟩ => ⟨S_, .i32⟩
  | .hbm, ⟨45, _⟩ => ⟨S32x1x1, .i32⟩
  | .hbm, ⟨46, _⟩ => ⟨S32x1x1, .i32⟩
  | .hbm, ⟨47, _⟩ => ⟨S1x1x256, .i32⟩
  | .hbm, ⟨48, _⟩ => ⟨S32x1x256, .i32⟩
  | .hbm, ⟨49, _⟩ => ⟨S32x1x256, .i32⟩
  | .hbm, ⟨50, _⟩ => ⟨S32x1x256, .i32⟩
  | .hbm, ⟨51, _⟩ => ⟨S_, .i32⟩
  | .hbm, ⟨52, _⟩ => ⟨S32x1x256, .i32⟩
  | .hbm, ⟨53, _⟩ => ⟨S32x1x256, .i1⟩
  | .hbm, ⟨54, _⟩ => ⟨S1x128x256, .i1⟩
  | .hbm, ⟨55, _⟩ => ⟨S32x128x256, .i1⟩
  | .hbm, ⟨56, _⟩ => ⟨S32x128x256, .i1⟩
  | .hbm, ⟨57, _⟩ => ⟨S32x128x256, .i1⟩
  | .hbm, ⟨58, _⟩ => ⟨S1x32x1x1x128x256, .i1⟩
  | .hbm, ⟨59, _⟩ => ⟨S_, .f32⟩
  | .hbm, ⟨60, _⟩ => ⟨S_, .f32⟩
  | .hbm, ⟨61, _⟩ => ⟨S4x32x8x8x128x256, .i1⟩
  | .hbm, ⟨62, _⟩ => ⟨S4x32x8x8x128x256, .f32⟩
  | .hbm, ⟨63, _⟩ => ⟨S4x32x8x8x128x256, .f32⟩
  | .hbm, ⟨64, _⟩ => ⟨S1x1x8x8x1x1, .f32⟩
  | .hbm, ⟨65, _⟩ => ⟨S4x32x8x8x128x1, .f32⟩
  | .hbm, ⟨66, _⟩ => ⟨S4x32x8x8x128x257, .f32⟩
  | .hbm, ⟨67, _⟩ => ⟨S_, .f32⟩
  | .hbm, ⟨68, _⟩ => ⟨S4x32x8x8x128, .f32⟩
  | .hbm, ⟨69, _⟩ => ⟨S_, .f32⟩
  | .hbm, ⟨70, _⟩ => ⟨S4x32x8x8x128, .f32⟩
  | .hbm, ⟨71, _⟩ => ⟨S4x32x8x8x128, .f32⟩
  | .hbm, ⟨72, _⟩ => ⟨S4x32x8x8x128x1, .f32⟩
  | .hbm, ⟨73, _⟩ => ⟨S4x32x8x8x128x257, .f32⟩
  | .hbm, ⟨74, _⟩ => ⟨S4x32x8x8x128x257, .f32⟩
  | .hbm, ⟨75, _⟩ => ⟨S4x32x8x8x128x257, .f32⟩
  | .hbm, ⟨76, _⟩ => ⟨S_, .f32⟩
  | .hbm, ⟨77, _⟩ => ⟨S4x32x8x8x128, .f32⟩
  | .hbm, ⟨78, _⟩ => ⟨S4x32x8x8x128x1, .f32⟩
  | .hbm, ⟨79, _⟩ => ⟨S4x32x8x8x128x257, .f32⟩
  | .hbm, ⟨80, _⟩ => ⟨S4x32x8x8x128x257, .f32⟩
  | .hbm, ⟨81, _⟩ => ⟨S4x32x8x8x128x256, .f32⟩
  | .hbm, ⟨82, _⟩ => ⟨S4x32x8x64x8x128, .f32⟩
  | .hbm, ⟨83, _⟩ => ⟨S4x32x128x8x8x64, .f32⟩
  | .hbm, ⟨84, _⟩ => ⟨S16384x4096, .f32⟩
  | .hbm, ⟨85, _⟩ => ⟨S16384x4096, .bf16⟩
  | _, _ => ⟨S4x4096x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_call1_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_2 : Ref sig .tc := ⟨.hbm, 32, rfl⟩
abbrev main_v22 : Ref sig .tc := ⟨.hbm, 33, rfl⟩
abbrev main_v23 : Ref sig .tc := ⟨.hbm, 34, rfl⟩
abbrev main_c_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_10 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩

abbrev nD : Nat := 1
abbrev τ : Topo := Topo.v7x

variable {F : FTy → Type} [FloatOps F]
-- ==== Up.lean ====
abbrev S16384x4096 : Shape := ⟨2, ![16384, 4096]⟩
abbrev S2x4096x11008 : Shape := ⟨3, ![2, 4096, 11008]⟩
abbrev S2x11008x4096 : Shape := ⟨3, ![2, 11008, 4096]⟩
abbrev S2x344x32x4096 : Shape := ⟨4, ![2, 344, 32, 4096]⟩
abbrev S16384x11008 : Shape := ⟨2, ![16384, 11008]⟩
abbrev S344x32x4096 : Shape := ⟨3, ![344, 32, 4096]⟩
abbrev S2048x4096 : Shape := ⟨2, ![2048, 4096]⟩
abbrev S1x4096x256 : Shape := ⟨3, ![1, 4096, 256]⟩
abbrev S1x1x32x4096 : Shape := ⟨4, ![1, 1, 32, 4096]⟩
abbrev S2048x256 : Shape := ⟨2, ![2048, 256]⟩
abbrev S1x32x4096 : Shape := ⟨3, ![1, 32, 4096]⟩
abbrev S4096x256 : Shape := ⟨2, ![4096, 256]⟩
abbrev S32x4096 : Shape := ⟨2, ![32, 4096]⟩

abbrev nBuf : Space → Nat
  | .hbm => 8
  | .vmem => 11
  | .smem => 0
  | _ => 0

abbrev bufTy : (tb : Table) → Fin (tcTables nBuf tb) → BufTy
  | .hbm, ⟨0, _⟩ => ⟨S16384x4096, .f32⟩
  | .hbm, ⟨1, _⟩ => ⟨S2x4096x11008, .f32⟩
  | .hbm, ⟨2, _⟩ => ⟨S2x4096x11008, .f32⟩
  | .hbm, ⟨3, _⟩ => ⟨S2x11008x4096, .f32⟩
  | .hbm, ⟨4, _⟩ => ⟨S16384x4096, .bf16⟩
  | .hbm, ⟨5, _⟩ => ⟨S2x344x32x4096, .f32⟩
  | .hbm, ⟨6, _⟩ => ⟨S16384x11008, .bf16⟩
  | .hbm, ⟨7, _⟩ => ⟨S344x32x4096, .bf16⟩
  | .local _ .vmem, ⟨0, _⟩ => ⟨S2048x4096, .bf16⟩
  | .local _ .vmem, ⟨1, _⟩ => ⟨S1x4096x256, .f32⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x1x32x4096, .f32⟩
  | .local _ .vmem, ⟨6, _⟩ => ⟨S1x1x32x4096, .f32⟩
  | .local _ .vmem, ⟨7, _⟩ => ⟨S2048x256, .bf16⟩
  | .local _ .vmem, ⟨8, _⟩ => ⟨S2048x256, .bf16⟩
  | .local _ .vmem, ⟨9, _⟩ => ⟨S1x32x4096, .bf16⟩
  | .local _ .vmem, ⟨10, _⟩ => ⟨S1x32x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x32x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpReferenceIdeal.lean ====
abbrev S16384x4096 : Shape := ⟨2, ![16384, 4096]⟩
abbrev S2x4096x11008 : Shape := ⟨3, ![2, 4096, 11008]⟩
abbrev S2x11008x4096 : Shape := ⟨3, ![2, 11008, 4096]⟩
abbrev S1x4096x11008 : Shape := ⟨3, ![1, 4096, 11008]⟩
abbrev S4096x11008 : Shape := ⟨2, ![4096, 11008]⟩
abbrev S16384x11008 : Shape := ⟨2, ![16384, 11008]⟩
abbrev S_ : Shape := ⟨0, ![]⟩
abbrev S1x11008x4096 : Shape := ⟨3, ![1, 11008, 4096]⟩
abbrev S11008x4096 : Shape := ⟨2, ![11008, 4096]⟩
abbrev S344x32x4096 : Shape := ⟨3, ![344, 32, 4096]⟩

abbrev nBuf : Space → Nat
  | .hbm => 25
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S2x4096x11008, .f32⟩
  | .hbm, ⟨2, _⟩ => ⟨S2x4096x11008, .f32⟩
  | .hbm, ⟨3, _⟩ => ⟨S2x11008x4096, .f32⟩
  | .hbm, ⟨4, _⟩ => ⟨S1x4096x11008, .f32⟩
  | .hbm, ⟨5, _⟩ => ⟨S4096x11008, .f32⟩
  | .hbm, ⟨6, _⟩ => ⟨S16384x11008, .f32⟩
  | .hbm, ⟨7, _⟩ => ⟨S16384x11008, .f32⟩
  | .hbm, ⟨8, _⟩ => ⟨S16384x11008, .f32⟩
  | .hbm, ⟨9, _⟩ => ⟨S_, .f32⟩
  | .hbm, ⟨10, _⟩ => ⟨S16384x11008, .f32⟩
  | .hbm, ⟨11, _⟩ => ⟨S16384x11008, .f32⟩
  | .hbm, ⟨12, _⟩ => ⟨S_, .f32⟩
  | .hbm, ⟨13, _⟩ => ⟨S16384x11008, .f32⟩
  | .hbm, ⟨14, _⟩ => ⟨S16384x11008, .f32⟩
  | .hbm, ⟨15, _⟩ => ⟨S16384x11008, .f32⟩
  | .hbm, ⟨16, _⟩ => ⟨S1x4096x11008, .f32⟩
  | .hbm, ⟨17, _⟩ => ⟨S4096x11008, .f32⟩
  | .hbm, ⟨18, _⟩ => ⟨S16384x11008, .f32⟩
  | .hbm, ⟨19, _⟩ => ⟨S16384x11008, .f32⟩
  | .hbm, ⟨20, _⟩ => ⟨S16384x11008, .bf16⟩
  | .hbm, ⟨21, _⟩ => ⟨S1x11008x4096, .f32⟩
  | .hbm, ⟨22, _⟩ => ⟨S11008x4096, .f32⟩
  | .hbm, ⟨23, _⟩ => ⟨S344x32x4096, .f32⟩
  | .hbm, ⟨24, _⟩ => ⟨S344x32x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩

abbrev nD : Nat := 1
abbrev τ : Topo := Topo.v7x

variable {F : FTy → Type} [FloatOps F]
-- ==== Down.lean ====
abbrev S16384x11008 : Shape := ⟨2, ![16384, 11008]⟩
abbrev S11008x4096 : Shape := ⟨2, ![11008, 4096]⟩
abbrev S1x11008x4096 : Shape := ⟨3, ![1, 11008, 4096]⟩
abbrev S16384x4096 : Shape := ⟨2, ![16384, 4096]⟩
abbrev S512x11008 : Shape := ⟨2, ![512, 11008]⟩
abbrev S1x11008x512 : Shape := ⟨3, ![1, 11008, 512]⟩
abbrev S512x512 : Shape := ⟨2, ![512, 512]⟩
abbrev S11008x512 : Shape := ⟨2, ![11008, 512]⟩

abbrev nBuf : Space → Nat
  | .hbm => 6
  | .vmem => 6
  | .smem => 0
  | _ => 0

abbrev bufTy : (tb : Table) → Fin (tcTables nBuf tb) → BufTy
  | .hbm, ⟨0, _⟩ => ⟨S16384x11008, .f32⟩
  | .hbm, ⟨1, _⟩ => ⟨S11008x4096, .f32⟩
  | .hbm, ⟨2, _⟩ => ⟨S16384x11008, .bf16⟩
  | .hbm, ⟨3, _⟩ => ⟨S11008x4096, .bf16⟩
  | .hbm, ⟨4, _⟩ => ⟨S1x11008x4096, .bf16⟩
  | .hbm, ⟨5, _⟩ => ⟨S16384x4096, .bf16⟩
  | .local _ .vmem, ⟨0, _⟩ => ⟨S512x11008, .bf16⟩
  | .local _ .vmem, ⟨1, _⟩ => ⟨S512x11008, .bf16⟩
  | .local _ .vmem, ⟨2, _⟩ => ⟨S1x11008x512, .bf16⟩
  | .local _ .vmem, ⟨3, _⟩ => ⟨S1x11008x512, .bf16⟩
  | .local _ .vmem, ⟨4, _⟩ => ⟨S512x512, .bf16⟩
  | .local _ .vmem, ⟨5, _⟩ => ⟨S512x512, .bf16⟩
  | _, _ => ⟨S16384x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownReferenceIdeal.lean ====
abbrev S16384x11008 : Shape := ⟨2, ![16384, 11008]⟩
abbrev S11008x4096 : Shape := ⟨2, ![11008, 4096]⟩
abbrev S16384x4096 : Shape := ⟨2, ![16384, 4096]⟩

abbrev nBuf : Space → Nat
  | .hbm => 4
  | .vmem => 0
  | .smem => 0
  | _ => 0

abbrev bufTy : (tb : Table) → Fin (tcTables nBuf tb) → BufTy
  | .hbm, ⟨0, _⟩ => ⟨S16384x11008, .f32⟩
  | .hbm, ⟨1, _⟩ => ⟨S11008x4096, .f32⟩
  | .hbm, ⟨2, _⟩ => ⟨S16384x4096, .f32⟩
  | .hbm, ⟨3, _⟩ => ⟨S16384x4096, .bf16⟩
  | _, _ => ⟨S16384x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Glu.lean ====
abbrev S16384x4096 : Shape := ⟨2, ![16384, 4096]⟩
abbrev S1x4096x4096 : Shape := ⟨3, ![1, 4096, 4096]⟩
abbrev S1x4096 : Shape := ⟨2, ![1, 4096]⟩
abbrev S1x1x4096 : Shape := ⟨3, ![1, 1, 4096]⟩
abbrev S1024x4096 : Shape := ⟨2, ![1024, 4096]⟩
abbrev S1x4096x512 : Shape := ⟨3, ![1, 4096, 512]⟩
abbrev S1x1x512 : Shape := ⟨3, ![1, 1, 512]⟩
abbrev S1024x512 : Shape := ⟨2, ![1024, 512]⟩
abbrev S4096x512 : Shape := ⟨2, ![4096, 512]⟩
abbrev S1x512 : Shape := ⟨2, ![1, 512]⟩

abbrev nBuf : Space → Nat
  | .hbm => 9
  | .vmem => 12
  | .smem => 0
  | _ => 0

abbrev bufTy : (tb : Table) → Fin (tcTables nBuf tb) → BufTy
  | .hbm, ⟨0, _⟩ => ⟨S16384x4096, .f32⟩
  | .hbm, ⟨1, _⟩ => ⟨S1x4096x4096, .f32⟩
  | .hbm, ⟨2, _⟩ => ⟨S1x4096, .f32⟩
  | .hbm, ⟨3, _⟩ => ⟨S1x4096x4096, .f32⟩
  | .hbm, ⟨4, _⟩ => ⟨S1x4096, .f32⟩
  | .hbm, ⟨5, _⟩ => ⟨S16384x4096, .bf16⟩
  | .hbm, ⟨6, _⟩ => ⟨S1x1x4096, .f32⟩
  | .hbm, ⟨7, _⟩ => ⟨S1x1x4096, .f32⟩
  | .hbm, ⟨8, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1x1x512, .f32⟩
  | .local _ .vmem, ⟨5, _⟩ => ⟨S1x1x512, .f32⟩
  | .local _ .vmem, ⟨6, _⟩ => ⟨S1x4096x512, .f32⟩
  | .local _ .vmem, ⟨7, _⟩ => ⟨S1x4096x512, .f32⟩
  | .local _ .vmem, ⟨8, _⟩ => ⟨S1x1x512, .f32⟩
  | .local _ .vmem, ⟨9, _⟩ => ⟨S1x1x512, .f32⟩
  | .local _ .vmem, ⟨10, _⟩ => ⟨S1024x512, .bf16⟩
  | .local _ .vmem, ⟨11, _⟩ => ⟨S1024x512, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x4096x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GluReferenceIdeal.lean ====
abbrev S16384x4096 : Shape := ⟨2, ![16384, 4096]⟩
abbrev S1x4096x4096 : Shape := ⟨3, ![1, 4096, 4096]⟩
abbrev S1x4096 : Shape := ⟨2, ![1, 4096]⟩
abbrev S4096x4096 : Shape := ⟨2, ![4096, 4096]⟩
abbrev S4096 : Shape := ⟨1, ![4096]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S1x4096x4096, .f32⟩
  | .hbm, ⟨2, _⟩ => ⟨S1x4096, .f32⟩
  | .hbm, ⟨3, _⟩ => ⟨S1x4096x4096, .f32⟩
  | .hbm, ⟨4, _⟩ => ⟨S1x4096, .f32⟩
  | .hbm, ⟨5, _⟩ => ⟨S4096x4096, .f32⟩
  | .hbm, ⟨6, _⟩ => ⟨S16384x4096, .f32⟩
  | .hbm, ⟨7, _⟩ => ⟨S4096, .f32⟩
  | .hbm, ⟨8, _⟩ => ⟨S1x4096, .f32⟩
  | .hbm, ⟨9, _⟩ => ⟨S16384x4096, .f32⟩
  | .hbm, ⟨10, _⟩ => ⟨S16384x4096, .f32⟩
  | .hbm, ⟨11, _⟩ => ⟨S4096x4096, .f32⟩
  | .hbm, ⟨12, _⟩ => ⟨S16384x4096, .f32⟩
  | .hbm, ⟨13, _⟩ => ⟨S4096, .f32⟩
  | .hbm, ⟨14, _⟩ => ⟨S1x4096, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S16384x4096, .f32⟩
  | .hbm, ⟨19, _⟩ => ⟨S_, .f32⟩
  | .hbm, ⟨20, _⟩ => ⟨S16384x4096, .f32⟩
  | .hbm, ⟨21, _⟩ => ⟨S16384x4096, .f32⟩
  | .hbm, ⟨22, _⟩ => ⟨S_, .f32⟩
  | .hbm, ⟨23, _⟩ => ⟨S16384x4096, .f32⟩
  | .hbm, ⟨24, _⟩ => ⟨S16384x4096, .f32⟩
  | .hbm, ⟨25, _⟩ => ⟨S16384x4096, .f32⟩
  | .hbm, ⟨26, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Out.lean ====
abbrev S16384x4096 : Shape := ⟨2, ![16384, 4096]⟩
abbrev S1x4096x4096 : Shape := ⟨3, ![1, 4096, 4096]⟩
abbrev S1x4096 : Shape := ⟨2, ![1, 4096]⟩
abbrev S1x1x4096 : Shape := ⟨3, ![1, 1, 4096]⟩
abbrev S1024x4096 : Shape := ⟨2, ![1024, 4096]⟩
abbrev S1x4096x1024 : Shape := ⟨3, ![1, 4096, 1024]⟩
abbrev S1x1x1024 : Shape := ⟨3, ![1, 1, 1024]⟩
abbrev S1024x1024 : Shape := ⟨2, ![1024, 1024]⟩
abbrev S4096x1024 : Shape := ⟨2, ![4096, 1024]⟩
abbrev S1x1024 : Shape := ⟨2, ![1, 1024]⟩

abbrev nBuf : Space → Nat
  | .hbm => 7
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S1x4096x4096, .f32⟩
  | .hbm, ⟨2, _⟩ => ⟨S1x4096, .f32⟩
  | .hbm, ⟨3, _⟩ => ⟨S16384x4096, .bf16⟩
  | .hbm, ⟨4, _⟩ => ⟨S1x4096x4096, .bf16⟩
  | .hbm, ⟨5, _⟩ => ⟨S1x1x4096, .f32⟩
  | .hbm, ⟨6, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1024x1024, .bf16⟩
  | .local _ .vmem, ⟨7, _⟩ => ⟨S1024x1024, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutReferenceIdeal.lean ====
abbrev S16384x4096 : Shape := ⟨2, ![16384, 4096]⟩
abbrev S1x4096x4096 : Shape := ⟨3, ![1, 4096, 4096]⟩
abbrev S1x4096 : Shape := ⟨2, ![1, 4096]⟩
abbrev S4096x4096 : Shape := ⟨2, ![4096, 4096]⟩
abbrev S4096 : Shape := ⟨1, ![4096]⟩

abbrev nBuf : Space → Nat
  | .hbm => 10
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S1x4096x4096, .f32⟩
  | .hbm, ⟨2, _⟩ => ⟨S1x4096, .f32⟩
  | .hbm, ⟨3, _⟩ => ⟨S4096x4096, .f32⟩
  | .hbm, ⟨4, _⟩ => ⟨S16384x4096, .f32⟩
  | .hbm, ⟨5, _⟩ => ⟨S4096, .f32⟩
  | .hbm, ⟨6, _⟩ => ⟨S1x4096, .f32⟩
  | .hbm, ⟨7, _⟩ => ⟨S16384x4096, .f32⟩
  | .hbm, ⟨8, _⟩ => ⟨S16384x4096, .f32⟩
  | .hbm, ⟨9, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Resid.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 10
  | .vmem => 10
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S16384x4096, .f32⟩
  | .hbm, ⟨3, _⟩ => ⟨S4096, .f32⟩
  | .hbm, ⟨4, _⟩ => ⟨S4096, .f32⟩
  | .hbm, ⟨5, _⟩ => ⟨S16384x4096, .bf16⟩
  | .hbm, ⟨6, _⟩ => ⟨S16384x4096, .bf16⟩
  | .hbm, ⟨7, _⟩ => ⟨S1x4096, .f32⟩
  | .hbm, ⟨8, _⟩ => ⟨S1x4096, .f32⟩
  | .hbm, ⟨9, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S1x4096, .f32⟩
  | .local _ .vmem, ⟨7, _⟩ => ⟨S1x4096, .f32⟩
  | .local _ .vmem, ⟨8, _⟩ => ⟨S256x4096, .f32⟩
  | .local _ .vmem, ⟨9, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ResidReferenceIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 39
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S16384x4096, .f32⟩
  | .hbm, ⟨3, _⟩ => ⟨S4096, .f32⟩
  | .hbm, ⟨4, _⟩ => ⟨S4096, .f32⟩
  | .hbm, ⟨5, _⟩ => ⟨S16384x4096, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x4096, .f32⟩
  | .hbm, ⟨17, _⟩ => ⟨S16384x4096, .f32⟩
  | .hbm, ⟨18, _⟩ => ⟨S1x4096, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S16384x4096, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x4096, .f32⟩
  | .hbm, ⟨34, _⟩ => ⟨S16384x4096, .f32⟩
  | .hbm, ⟨35, _⟩ => ⟨S1x4096, .f32⟩
  | .hbm, ⟨36, _⟩ => ⟨S16384x4096, .f32⟩
  | .hbm, ⟨37, _⟩ => ⟨S16384x4096, .f32⟩
  | .hbm, ⟨38, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Cast.lean ====
abbrev S16384x11008 : Shape := ⟨2, ![16384, 11008]⟩
abbrev S11008x4096 : Shape := ⟨2, ![11008, 4096]⟩
abbrev S1x4096x5120 : Shape := ⟨3, ![1, 4096, 5120]⟩
abbrev S1x4096x4096 : Shape := ⟨3, ![1, 4096, 4096]⟩
abbrev S1x11008x4096 : Shape := ⟨3, ![1, 11008, 4096]⟩
abbrev S1x256x16x5120 : Shape := ⟨4, ![1, 256, 16, 5120]⟩
abbrev S1x256x16x4096 : Shape := ⟨4, ![1, 256, 16, 4096]⟩
abbrev S16384x4096 : Shape := ⟨2, ![16384, 4096]⟩
abbrev S256x16x5120 : Shape := ⟨3, ![256, 16, 5120]⟩
abbrev S256x16x4096 : Shape := ⟨3, ![256, 16, 4096]⟩
abbrev S512x11008 : Shape := ⟨2, ![512, 11008]⟩
abbrev S1x11008x512 : Shape := ⟨3, ![1, 11008, 512]⟩
abbrev S1x1x16x5120 : Shape := ⟨4, ![1, 1, 16, 5120]⟩
abbrev S1x1x16x4096 : Shape := ⟨4, ![1, 1, 16, 4096]⟩
abbrev S512x512 : Shape := ⟨2, ![512, 512]⟩
abbrev S1x16x5120 : Shape := ⟨3, ![1, 16, 5120]⟩
abbrev S1x16x4096 : Shape := ⟨3, ![1, 16, 4096]⟩
abbrev S11008x512 : Shape := ⟨2, ![11008, 512]⟩
abbrev S16x5120 : Shape := ⟨2, ![16, 5120]⟩
abbrev S16x4096 : Shape := ⟨2, ![16, 4096]⟩

abbrev nBuf : Space → Nat
  | .hbm => 12
  | .vmem => 14
  | .smem => 0
  | _ => 0

abbrev bufTy : (tb : Table) → Fin (tcTables nBuf tb) → BufTy
  | .hbm, ⟨0, _⟩ => ⟨S16384x11008, .f32⟩
  | .hbm, ⟨1, _⟩ => ⟨S11008x4096, .f32⟩
  | .hbm, ⟨2, _⟩ => ⟨S1x4096x5120, .f32⟩
  | .hbm, ⟨3, _⟩ => ⟨S1x4096x4096, .f32⟩
  | .hbm, ⟨4, _⟩ => ⟨S16384x11008, .bf16⟩
  | .hbm, ⟨5, _⟩ => ⟨S11008x4096, .bf16⟩
  | .hbm, ⟨6, _⟩ => ⟨S1x11008x4096, .bf16⟩
  | .hbm, ⟨7, _⟩ => ⟨S1x256x16x5120, .f32⟩
  | .hbm, ⟨8, _⟩ => ⟨S1x256x16x4096, .f32⟩
  | .hbm, ⟨9, _⟩ => ⟨S16384x4096, .bf16⟩
  | .hbm, ⟨10, _⟩ => ⟨S256x16x5120, .bf16⟩
  | .hbm, ⟨11, _⟩ => ⟨S256x16x4096, .bf16⟩
  | .local _ .vmem, ⟨0, _⟩ => ⟨S512x11008, .bf16⟩
  | .local _ .vmem, ⟨1, _⟩ => ⟨S512x11008, .bf16⟩
  | .local _ .vmem, ⟨2, _⟩ => ⟨S1x11008x512, .bf16⟩
  | .local _ .vmem, ⟨3, _⟩ => ⟨S1x11008x512, .bf16⟩
  | .local _ .vmem, ⟨4, _⟩ => ⟨S1x1x16x5120, .f32⟩
  | .local _ .vmem, ⟨5, _⟩ => ⟨S1x1x16x5120, .f32⟩
  | .local _ .vmem, ⟨6, _⟩ => ⟨S1x1x16x4096, .f32⟩
  | .local _ .vmem, ⟨7, _⟩ => ⟨S1x1x16x4096, .f32⟩
  | .local _ .vmem, ⟨8, _⟩ => ⟨S512x512, .bf16⟩
  | .local _ .vmem, ⟨9, _⟩ => ⟨S512x512, .bf16⟩
  | .local _ .vmem, ⟨10, _⟩ => ⟨S1x16x5120, .bf16⟩
  | .local _ .vmem, ⟨11, _⟩ => ⟨S1x16x5120, .bf16⟩
  | .local _ .vmem, ⟨12, _⟩ => ⟨S1x16x4096, .bf16⟩
  | .local _ .vmem, ⟨13, _⟩ => ⟨S1x16x4096, .bf16⟩
  | _, _ => ⟨S16384x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x16x5120 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x16x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x5120 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== CastReferenceIdeal.lean ====
abbrev S16384x11008 : Shape := ⟨2, ![16384, 11008]⟩
abbrev S11008x4096 : Shape := ⟨2, ![11008, 4096]⟩
abbrev S1x4096x5120 : Shape := ⟨3, ![1, 4096, 5120]⟩
abbrev S1x4096x4096 : Shape := ⟨3, ![1, 4096, 4096]⟩
abbrev S16384x4096 : Shape := ⟨2, ![16384, 4096]⟩
abbrev S4096x5120 : Shape := ⟨2, ![4096, 5120]⟩
abbrev S256x16x5120 : Shape := ⟨3, ![256, 16, 5120]⟩
abbrev S4096x4096 : Shape := ⟨2, ![4096, 4096]⟩
abbrev S256x16x4096 : Shape := ⟨3, ![256, 16, 4096]⟩

abbrev nBuf : Space → Nat
  | .hbm => 12
  | .vmem => 0
  | .smem => 0
  | _ => 0

abbrev bufTy : (tb : Table) → Fin (tcTables nBuf tb) → BufTy
  | .hbm, ⟨0, _⟩ => ⟨S16384x11008, .f32⟩
  | .hbm, ⟨1, _⟩ => ⟨S11008x4096, .f32⟩
  | .hbm, ⟨2, _⟩ => ⟨S1x4096x5120, .f32⟩
  | .hbm, ⟨3, _⟩ => ⟨S1x4096x4096, .f32⟩
  | .hbm, ⟨4, _⟩ => ⟨S16384x4096, .f32⟩
  | .hbm, ⟨5, _⟩ => ⟨S16384x4096, .bf16⟩
  | .hbm, ⟨6, _⟩ => ⟨S4096x5120, .f32⟩
  | .hbm, ⟨7, _⟩ => ⟨S256x16x5120, .f32⟩
  | .hbm, ⟨8, _⟩ => ⟨S256x16x5120, .bf16⟩
  | .hbm, ⟨9, _⟩ => ⟨S4096x4096, .f32⟩
  | .hbm, ⟨10, _⟩ => ⟨S256x16x4096, .f32⟩
  | .hbm, ⟨11, _⟩ => ⟨S256x16x4096, .bf16⟩
  | _, _ => ⟨S16384x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== First.lean ====
abbrev S16384x4096 : Shape := ⟨2, ![16384, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FirstReferenceIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Mix.lean ====
abbrev S16384x4096 : Shape := ⟨2, ![16384, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S4096, .f32⟩
  | .hbm, ⟨3, _⟩ => ⟨S4096, .f32⟩
  | .hbm, ⟨4, _⟩ => ⟨S16384x4096, .bf16⟩
  | .hbm, ⟨5, _⟩ => ⟨S1x4096, .f32⟩
  | .hbm, ⟨6, _⟩ => ⟨S1x4096, .f32⟩
  | .hbm, ⟨7, _⟩ => ⟨S16384x4096, .bf16⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S1x4096, .f32⟩
  | .local _ .vmem, ⟨5, _⟩ => ⟨S1x4096, .f32⟩
  | .local _ .vmem, ⟨6, _⟩ => ⟨S512x4096, .bf16⟩
  | .local _ .vmem, ⟨7, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MixReferenceIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 38
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S4096, .f32⟩
  | .hbm, ⟨3, _⟩ => ⟨S4096, .f32⟩
  | .hbm, ⟨4, _⟩ => ⟨S16384x4096, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x4096, .f32⟩
  | .hbm, ⟨16, _⟩ => ⟨S16384x4096, .f32⟩
  | .hbm, ⟨17, _⟩ => ⟨S1x4096, .f32⟩
  | .hbm, ⟨18, _⟩ => ⟨S16384x4096, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x4096, .f32⟩
  | .hbm, ⟨33, _⟩ => ⟨S16384x4096, .f32⟩
  | .hbm, ⟨34, _⟩ => ⟨S1x4096, .f32⟩
  | .hbm, ⟨35, _⟩ => ⟨S16384x4096, .f32⟩
  | .hbm, ⟨36, _⟩ => ⟨S16384x4096, .f32⟩
  | .hbm, ⟨37, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Between.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 13
  | .vmem => 13
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S16384x4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S16384x4096, .bf16⟩
  | .hbm, ⟨7, _⟩ => ⟨S16384x4096, .bf16⟩
  | .hbm, ⟨8, _⟩ => ⟨S1x4096, .f32⟩
  | .hbm, ⟨9, _⟩ => ⟨S1x4096, .f32⟩
  | .hbm, ⟨10, _⟩ => ⟨S1x4096, .f32⟩
  | .hbm, ⟨11, _⟩ => ⟨S16384x4096, .f32⟩
  | .hbm, ⟨12, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S1x4096, .f32⟩
  | .local _ .vmem, ⟨7, _⟩ => ⟨S1x4096, .f32⟩
  | .local _ .vmem, ⟨8, _⟩ => ⟨S1x4096, .f32⟩
  | .local _ .vmem, ⟨9, _⟩ => ⟨S256x4096, .f32⟩
  | .local _ .vmem, ⟨10, _⟩ => ⟨S256x4096, .f32⟩
  | .local _ .vmem, ⟨11, _⟩ => ⟨S256x4096, .bf16⟩
  | .local _ .vmem, ⟨12, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== BetweenReferenceIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 57
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S16384x4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S16384x4096, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x4096, .f32⟩
  | .hbm, ⟨18, _⟩ => ⟨S16384x4096, .f32⟩
  | .hbm, ⟨19, _⟩ => ⟨S1x4096, .f32⟩
  | .hbm, ⟨20, _⟩ => ⟨S16384x4096, .f32⟩
  | .hbm, ⟨21, _⟩ => ⟨S16384x4096, .f32⟩
  | .hbm, ⟨22, _⟩ => ⟨S16384x4096, .f32⟩
  | .hbm, ⟨23, _⟩ => ⟨S16384x4096, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S16384x4096, .f32⟩
  | .hbm, ⟨35, _⟩ => ⟨S16384x4096, .f32⟩
  | .hbm, ⟨36, _⟩ => ⟨S1x4096, .f32⟩
  | .hbm, ⟨37, _⟩ => ⟨S16384x4096, .f32⟩
  | .hbm, ⟨38, _⟩ => ⟨S16384x4096, .f32⟩
  | .hbm, ⟨39, _⟩ => ⟨S16384x4096, .f32⟩
  | .hbm, ⟨40, _⟩ => ⟨S16384x4096, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1, .f32⟩
  | .hbm, ⟨51, _⟩ => ⟨S16384x4096, .f32⟩
  | .hbm, ⟨52, _⟩ => ⟨S16384x4096, .f32⟩
  | .hbm, ⟨53, _⟩ => ⟨S1x4096, .f32⟩
  | .hbm, ⟨54, _⟩ => ⟨S16384x4096, .f32⟩
  | .hbm, ⟨55, _⟩ => ⟨S16384x4096, .f32⟩
  | .hbm, ⟨56, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Qkv.lean ====
abbrev S16384x4096 : Shape := ⟨2, ![16384, 4096]⟩
abbrev S1x4096x5120 : Shape := ⟨3, ![1, 4096, 5120]⟩
abbrev S1x5120 : Shape := ⟨2, ![1, 5120]⟩
abbrev S4x4096 : Shape := ⟨2, ![4, 4096]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S16384x1 : Shape := ⟨2, ![16384, 1]⟩
abbrev S1x1x5120 : Shape := ⟨3, ![1, 1, 5120]⟩
abbrev S16384x5120 : Shape := ⟨2, ![16384, 5120]⟩
abbrev S1024x4096 : Shape := ⟨2, ![1024, 4096]⟩
abbrev S1x4096x1024 : Shape := ⟨3, ![1, 4096, 1024]⟩
abbrev S1x1x1024 : Shape := ⟨3, ![1, 1, 1024]⟩
abbrev S1024x1 : Shape := ⟨2, ![1024, 1]⟩
abbrev S1024x1024 : Shape := ⟨2, ![1024, 1024]⟩
abbrev S1024x128 : Shape := ⟨2, ![1024, 128]⟩
abbrev S4096x1024 : Shape := ⟨2, ![4096, 1024]⟩
abbrev S1x1024 : Shape := ⟨2, ![1, 1024]⟩
abbrev S256x128 : Shape := ⟨2, ![256, 128]⟩
abbrev S256x4096 : Shape := ⟨2, ![256, 4096]⟩
abbrev S256x1024 : Shape := ⟨2, ![256, 1024]⟩

abbrev nBuf : Space → Nat
  | .hbm => 21
  | .vmem => 13
  | .smem => 0
  | _ => 0

abbrev bufTy : (tb : Table) → Fin (tcTables nBuf tb) → BufTy
  | .hbm, ⟨0, _⟩ => ⟨S16384x4096, .f32⟩
  | .hbm, ⟨1, _⟩ => ⟨S1x4096x5120, .f32⟩
  | .hbm, ⟨2, _⟩ => ⟨S1x5120, .f32⟩
  | .hbm, ⟨3, _⟩ => ⟨S4x4096, .i32⟩
  | .hbm, ⟨4, _⟩ => ⟨S16384x4096, .bf16⟩
  | .hbm, ⟨5, _⟩ => ⟨S1x4096x5120, .bf16⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S1x32, .f32⟩
  | .hbm, ⟨15, _⟩ => ⟨S4x32, .f32⟩
  | .hbm, ⟨16, _⟩ => ⟨S128, .f32⟩
  | .hbm, ⟨17, _⟩ => ⟨S1x128, .f32⟩
  | .hbm, ⟨18, _⟩ => ⟨S16384x1, .i32⟩
  | .hbm, ⟨19, _⟩ => ⟨S1x1x5120, .f32⟩
  | .hbm, ⟨20, _⟩ => ⟨S16384x5120, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1024x1, .i32⟩
  | .local _ .vmem, ⟨7, _⟩ => ⟨S1024x1, .i32⟩
  | .local _ .vmem, ⟨8, _⟩ => ⟨S1x128, .f32⟩
  | .local _ .vmem, ⟨9, _⟩ => ⟨S1024x1024, .bf16⟩
  | .local _ .vmem, ⟨10, _⟩ => ⟨S1024x1024, .bf16⟩
  | .local _ .vmem, ⟨11, _⟩ => ⟨S1024x128, .f32⟩
  | .local _ .vmem, ⟨12, _⟩ => ⟨S1024x128, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== QkvReferenceIdeal.lean ====
abbrev S16384x4096 : Shape := ⟨2, ![16384, 4096]⟩
abbrev S1x4096x5120 : Shape := ⟨3, ![1, 4096, 5120]⟩
abbrev S1x5120 : Shape := ⟨2, ![1, 5120]⟩
abbrev S4x4096 : Shape := ⟨2, ![4, 4096]⟩
abbrev S4096x5120 : Shape := ⟨2, ![4096, 5120]⟩
abbrev S16384x5120 : Shape := ⟨2, ![16384, 5120]⟩
abbrev S5120 : Shape := ⟨1, ![5120]⟩
abbrev S4x4096x5120 : Shape := ⟨3, ![4, 4096, 5120]⟩
abbrev S4x4096x4096 : Shape := ⟨3, ![4, 4096, 4096]⟩
abbrev S4x4096x512 : Shape := ⟨3, ![4, 4096, 512]⟩
abbrev S4x4096x64x64 : Shape := ⟨4, ![4, 4096, 64, 64]⟩
abbrev S32 : Shape := ⟨1, ![32]⟩
abbrev S_ : Shape := ⟨0, ![]⟩
abbrev S4x4096x1 : Shape := ⟨3, ![4, 4096, 1]⟩
abbrev S1x1x32 : Shape := ⟨3, ![1, 1, 32]⟩
abbrev S4x4096x32 : Shape := ⟨3, ![4, 4096, 32]⟩
abbrev S4x4096x1x32 : Shape := ⟨4, ![4, 4096, 1, 32]⟩
abbrev S4x4096x64x32 : Shape := ⟨4, ![4, 4096, 64, 32]⟩
abbrev S4x4096x8x64 : Shape := ⟨4, ![4, 4096, 8, 64]⟩
abbrev S4x4096x8x32 : Shape := ⟨4, ![4, 4096, 8, 32]⟩
abbrev S16384x512 : Shape := ⟨2, ![16384, 512]⟩

abbrev nBuf : Space → Nat
  | .hbm => 83
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S1x4096x5120, .f32⟩
  | .hbm, ⟨2, _⟩ => ⟨S1x5120, .f32⟩
  | .hbm, ⟨3, _⟩ => ⟨S4x4096, .i32⟩
  | .hbm, ⟨4, _⟩ => ⟨S4096x5120, .f32⟩
  | .hbm, ⟨5, _⟩ => ⟨S16384x5120, .f32⟩
  | .hbm, ⟨6, _⟩ => ⟨S5120, .f32⟩
  | .hbm, ⟨7, _⟩ => ⟨S1x5120, .f32⟩
  | .hbm, ⟨8, _⟩ => ⟨S16384x5120, .f32⟩
  | .hbm, ⟨9, _⟩ => ⟨S16384x5120, .f32⟩
  | .hbm, ⟨10, _⟩ => ⟨S4x4096x5120, .f32⟩
  | .hbm, ⟨11, _⟩ => ⟨S4x4096x4096, .f32⟩
  | .hbm, ⟨12, _⟩ => ⟨S4x4096x512, .f32⟩
  | .hbm, ⟨13, _⟩ => ⟨S4x4096x512, .f32⟩
  | .hbm, ⟨14, _⟩ => ⟨S4x4096x64x64, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S4x4096, .f32⟩
  | .hbm, ⟨24, _⟩ => ⟨S4x4096x1, .f32⟩
  | .hbm, ⟨25, _⟩ => ⟨S1x1x32, .f32⟩
  | .hbm, ⟨26, _⟩ => ⟨S4x4096x32, .f32⟩
  | .hbm, ⟨27, _⟩ => ⟨S4x4096x32, .f32⟩
  | .hbm, ⟨28, _⟩ => ⟨S4x4096x32, .f32⟩
  | .hbm, ⟨29, _⟩ => ⟨S4x4096x32, .f32⟩
  | .hbm, ⟨30, _⟩ => ⟨S4x4096x1x32, .f32⟩
  | .hbm, ⟨31, _⟩ => ⟨S4x4096x32, .f32⟩
  | .hbm, ⟨32, _⟩ => ⟨S4x4096x1x32, .f32⟩
  | .hbm, ⟨33, _⟩ => ⟨S4x4096x64x32, .f32⟩
  | .hbm, ⟨34, _⟩ => ⟨S4x4096x64x32, .f32⟩
  | .hbm, ⟨35, _⟩ => ⟨S4x4096x64x32, .f32⟩
  | .hbm, ⟨36, _⟩ => ⟨S4x4096x64x32, .f32⟩
  | .hbm, ⟨37, _⟩ => ⟨S4x4096x64x32, .f32⟩
  | .hbm, ⟨38, _⟩ => ⟨S4x4096x64x32, .f32⟩
  | .hbm, ⟨39, _⟩ => ⟨S4x4096x64x32, .f32⟩
  | .hbm, ⟨40, _⟩ => ⟨S4x4096x64x32, .f32⟩
  | .hbm, ⟨41, _⟩ => ⟨S4x4096x64x32, .f32⟩
  | .hbm, ⟨42, _⟩ => ⟨S4x4096x64x32, .f32⟩
  | .hbm, ⟨43, _⟩ => ⟨S4x4096x64x32, .f32⟩
  | .hbm, ⟨44, _⟩ => ⟨S4x4096x64x32, .f32⟩
  | .hbm, ⟨45, _⟩ => ⟨S4x4096x64x64, .f32⟩
  | .hbm, ⟨46, _⟩ => ⟨S4x4096x8x64, .f32⟩
  | .hbm, ⟨47, _⟩ => ⟨S32, .f32⟩
  | .hbm, ⟨48, _⟩ => ⟨S32, .f32⟩
  | .hbm, ⟨49, _⟩ => ⟨S_, .f32⟩
  | .hbm, ⟨50, _⟩ => ⟨S32, .f32⟩
  | .hbm, ⟨51, _⟩ => ⟨S32, .f32⟩
  | .hbm, ⟨52, _⟩ => ⟨S_, .f32⟩
  | .hbm, ⟨53, _⟩ => ⟨S32, .f32⟩
  | .hbm, ⟨54, _⟩ => ⟨S32, .f32⟩
  | .hbm, ⟨55, _⟩ => ⟨S4x4096, .f32⟩
  | .hbm, ⟨56, _⟩ => ⟨S4x4096x1, .f32⟩
  | .hbm, ⟨57, _⟩ => ⟨S1x1x32, .f32⟩
  | .hbm, ⟨58, _⟩ => ⟨S4x4096x32, .f32⟩
  | .hbm, ⟨59, _⟩ => ⟨S4x4096x32, .f32⟩
  | .hbm, ⟨60, _⟩ => ⟨S4x4096x32, .f32⟩
  | .hbm, ⟨61, _⟩ => ⟨S4x4096x32, .f32⟩
  | .hbm, ⟨62, _⟩ => ⟨S4x4096x1x32, .f32⟩
  | .hbm, ⟨63, _⟩ => ⟨S4x4096x32, .f32⟩
  | .hbm, ⟨64, _⟩ => ⟨S4x4096x1x32, .f32⟩
  | .hbm, ⟨65, _⟩ => ⟨S4x4096x8x32, .f32⟩
  | .hbm, ⟨66, _⟩ => ⟨S4x4096x8x32, .f32⟩
  | .hbm, ⟨67, _⟩ => ⟨S4x4096x8x32, .f32⟩
  | .hbm, ⟨68, _⟩ => ⟨S4x4096x8x32, .f32⟩
  | .hbm, ⟨69, _⟩ => ⟨S4x4096x8x32, .f32⟩
  | .hbm, ⟨70, _⟩ => ⟨S4x4096x8x32, .f32⟩
  | .hbm, ⟨71, _⟩ => ⟨S4x4096x8x32, .f32⟩
  | .hbm, ⟨72, _⟩ => ⟨S4x4096x8x32, .f32⟩
  | .hbm, ⟨73, _⟩ => ⟨S4x4096x8x32, .f32⟩
  | .hbm, ⟨74, _⟩ => ⟨S4x4096x8x32, .f32⟩
  | .hbm, ⟨75, _⟩ => ⟨S4x4096x8x32, .f32⟩
  | .hbm, ⟨76, _⟩ => ⟨S4x4096x8x32, .f32⟩
  | .hbm, ⟨77, _⟩ => ⟨S4x4096x8x64, .f32⟩
  | .hbm, ⟨78, _⟩ => ⟨S16384x4096, .f32⟩
  | .hbm, ⟨79, _⟩ => ⟨S16384x512, .f32⟩
  | .hbm, ⟨80, _⟩ => ⟨S16384x512, .f32⟩
  | .hbm, ⟨81, _⟩ => ⟨S16384x5120, .f32⟩
  | .hbm, ⟨82, _⟩ => ⟨S16384x5120, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_cst_1 : Ref sig .tc := ⟨.hbm, 49, rfl⟩
abbrev main_v43 : Ref sig .tc := ⟨.hbm, 50, rfl⟩
abbrev main_v44 : Ref sig .tc := ⟨.hbm, 51, rfl⟩
abbrev main_cst_2 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩

abbrev nD : Nat := 1
abbrev τ : Topo := Topo.v7x

variable {F : FTy → Type} [FloatOps F]
-- ==== Proof.Consts.lean ====
/-  The float constants of the programs as extended reals. -/
module

public import Idealize.ShloMosaic.PureOps.Ideal.Laws

@[expose] public section

namespace Cert.Consts

open Idealize.ShloMosaic

/-- Minus infinity. -/
theorem neg_inf : Ideal.ofBits .f32 0xFF800000#32 = (⊥ : EReal) := by
  simp [Ideal.ofBits, Ideal.ieee]

/-- Plus infinity. -/
theorem pos_inf : Ideal.ofBits .f32 0x7F800000#32 = (⊤ : EReal) := by
  simp [Ideal.ofBits, Ideal.ieee]

/-- One eighth, the score scale at head width 64. -/
theorem eighth : Ideal.ofBits .f32 0x3E000000#32 = ((1 / 8 : ℝ) : EReal) := by
  simp [Ideal.ofBits, Ideal.ieee, -EReal.coe_mul]; norm_num

end Cert.Consts
-- ==== Proof.Head.lean ====
/-  One pair of heads of the attention call, as the body computes it, read at an index. -/
module

public import proofs.«01_k».proof.Proof.Gen.KernelIdeal.Value
public import Idealize.ShloMosaic.Lib.Pipeline.ValueKit
public import Idealize.ShloMosaic.Lib.Pointwise
public import Idealize.ShloMosaic.Lib.WordCmp
public import proofs.«01_k».proof.Proof.Consts

@[expose] public section

set_option maxRecDepth 16384

noncomputable section

namespace Cert.Attn

open Cert.KernelIdeal Cert.KernelIdeal.Gen Idealize.ShloMosaic Idealize.ShloMosaic.TcCoe Idealize.SL.Sem

/-- Where the key of a column comes from the block before: columns right of the row. -/
abbrev fromPrev : IVec S128x128 1 := cmpi .sgt (iota .tc S128x128 32 [1] iota_S128x128_d1_w32) (iota .tc S128x128 32 [0] iota_S128x128_d0_w32)

/-- The scores kept for a block's rows: those of the block before right of the diagonal, its own elsewhere. -/
def kept (np : EReal) (qt : FVec Ideal S128x128 .bf16) (kk : FVec Ideal S256x128 .bf16) : FVec Ideal S128x128 .f32 :=
  have s : FVec Ideal S128x256 .f32 := matmul dot_S128x128_S256x128_S128x256_1_1_0_0_n_n none qt kk (constant S128x256 .f32 0x00000000#32)
  select fromPrev (addf (extractStridedSlice S128x128 ![0, 0] s slices_S128x256_o0_0_S128x128) (broadcast S128x128 (np : Ideal .f32)))
    (extractStridedSlice S128x128 ![0, 128] s slices_S128x256_o0_128_S128x128)

/-- The row maxima, the sink included. -/
def top (z : FVec Ideal S128x128 .f32) (sk : EReal) : FVec Ideal S128x1 .f32 :=
  maximumf (shapeCast S128x1 (multiReduction .maximumf [1] S128 z 0xFF800000#32 reduces_S128x128_S128 (.inl rfl) rfl) shapeCasts_S128_S128x1)
    (broadcast S128x1 (sk : Ideal .f32))

/-- The powers of two of the scores less their row's maximum. -/
def pows (z : FVec Ideal S128x128 .f32) (sk : EReal) : FVec Ideal S128x128 .f32 :=
  exp2 (subf z (broadcastTo S128x128 (top z sk) broadcasts_S128x1_S128x128))

/-- One head's output tile: weights times values, over the weights' total. -/
def half (np : EReal) (qt : FVec Ideal S128x128 .bf16) (kk vv : FVec Ideal S256x128 .bf16) (snk : EReal) : FVec Ideal S128x128 .f32 :=
  have sk : Ideal .f32 := Scalar.mulf (snk : Ideal .f32) (Named.named κ "log2e" 0x3FB8AA3B#32)
  have z : FVec Ideal S128x128 .f32 := kept np qt kk
  have e : FVec Ideal S128x128 .f32 := pows z sk
  have den : FVec Ideal S128x1 .f32 := addf (shapeCast S128x1 (multiReduction .add [1] S128 e 0x00000000#32 reduces_S128x128_S128 (.inl rfl) rfl) shapeCasts_S128_S128x1)
    (exp2 (subf (broadcast S128x1 sk) (top z sk)))
  have p : FVec Ideal S128x256 .bf16 := truncf .bf16 (concatenate S128x256 1
    [⟨S128x128, select fromPrev e (broadcast S128x128 (Scalar.ofBits .f32 0x00000000#32))⟩,
     ⟨S128x128, select fromPrev (broadcast S128x128 (Scalar.ofBits .f32 0x00000000#32)) e⟩] concatenates_S128x128_S128x128_S128x256_d1) bitsLt_bf16_f32
  mulf (matmul dot_S128x256_S256x128_S128x128_1_0_0_1_n_n none p vv (constant S128x128 .f32 0x00000000#32))
    (broadcastTo S128x128 (divf (broadcast S128x1 (Scalar.ofBits .f32 0x3F800000#32)) den) broadcasts_S128x1_S128x128)

/-- A tile of two heads: each head's own half of the lanes, the other half zero, added. -/
def pair (np : EReal) (qt : FVec Ideal S128x128 .bf16) (klo khi vlo vhi : FVec Ideal S256x128 .bf16) (s0 s1 : EReal) : FVec Ideal S128x128 .bf16 :=
  truncf .bf16 (addf (half np qt klo vlo s0) (half np qt khi vhi s1)) bitsLt_bf16_f32

/-- The left half of the lanes of a tile, zeros right. -/
def lo (x : FVec Ideal S256x128 .f32) : FVec Ideal S256x128 .bf16 :=
  truncf .bf16 (select (cmpi .slt (iota .tc S256x128 32 [1] iota_S256x128_d1_w32) (broadcast S256x128 64#32)) x
    (broadcast S256x128 (Scalar.ofBits .f32 0x00000000#32))) bitsLt_bf16_f32
/-- The right half of the lanes of a tile, zeros left. -/
def hi (x : FVec Ideal S256x128 .f32) : FVec Ideal S256x128 .bf16 :=
  truncf .bf16 (select (cmpi .slt (iota .tc S256x128 32 [1] iota_S256x128_d1_w32) (broadcast S256x128 64#32))
    (broadcast S256x128 (Scalar.ofBits .f32 0x00000000#32)) x) bitsLt_bf16_f32
/-- The halves of a tile's lanes exchanged. -/
def swap (x : FVec Ideal S256x128 .f32) : FVec Ideal S256x128 .f32 := dynamicRotate 1 64#32 none x rotates_S256x128_d1

/-- A tile of the stacked keys or values. -/
abbrev tile (o : ℕ) (x : FVec Ideal S256x512 .f32) (h : S256x512.Slices ![0, o] S256x128) : FVec Ideal S256x128 .f32 :=
  extractStridedSlice S256x128 ![0, o] x h
abbrev qtile (o : ℕ) (x : FVec Ideal S128x4096 .bf16) (h : S128x4096.Slices ![0, o] S128x128) : FVec Ideal S128x128 .bf16 :=
  extractStridedSlice S128x128 ![0, o] x h

/-- The reciprocal of log 2. -/
def L : EReal := ((Real.log 2)⁻¹ : ℝ)

theorem log2e_eq : (Named.named κ "log2e" 0x3FB8AA3B#32 : Ideal .f32) = L :=
  IdealRules.named_const.ideal_named_scalar _ _ _ _ rfl

theorem pick (r t : Fin 128) (a b : EReal) :
    Scalar.select (IntOp.cmpi .sgt (BitVec.ofNat 32 t.val) (BitVec.ofNat 32 r.val)) a b = if r.val < t.val then a else b := by
  simp (disch := omega) only [hlo_ix]

theorem pickLane (l : Fin 128) (a b : EReal) :
    Scalar.select (IntOp.cmpi .slt (BitVec.ofNat 32 l.val) 64#32) a b = if l.val < 64 then a else b := by
  simp (disch := omega) only [hlo_ix]

/-- One head's output at a row and lane, from its scaled queries, the two blocks' keys and values and its sink. -/
def headOut (r : Fin 128) (np : EReal) (qs : Fin 64 → EReal) (kP kC : Fin 128 → Fin 64 → EReal) (vP vC : Fin 128 → EReal) (snk : EReal) : EReal :=
  let z : Fin 128 → EReal := fun t => if r.val < t.val then (∑ x, qs x * kP t x) + np else ∑ x, qs x * kC t x
  let m : EReal := max (Finset.univ.fold max ⊥ z) (snk * L)
  ((∑ t : Fin 128, if r.val < t.val then Ideal.exp2 (z t - m) * vP t else 0)
      + ∑ t : Fin 128, if r.val < t.val then 0 else Ideal.exp2 (z t - m) * vC t)
    * Ideal.div 1 ((∑ t : Fin 128, Ideal.exp2 (z t - m)) + Ideal.exp2 (snk * L - m))

theorem kept_at (np : EReal) (qt : FVec Ideal S128x128 .bf16) (kk : FVec Ideal S256x128 .bf16) (r t : Fin 128) :
    kept np qt kk (ix2 r t) = if r.val < t.val then (∑ x : Fin 128, qt (ix2 r x) * kk (ix2 ⟨t.val, by omega⟩ x)) + np
      else ∑ x : Fin 128, qt (ix2 r x) * kk (ix2 ⟨128 + t.val, by omega⟩ x) := by
  rw [← pick]
  pointwise [kept]

theorem top_at (z : FVec Ideal S128x128 .f32) (sk : EReal) (r : Fin 128) :
    top z sk (ix2 r 0) = max (Finset.univ.fold max ⊥ fun x : Fin 128 => z (ix2 r x)) sk := by
  rw [← Consts.neg_inf]
  pointwise [top]

theorem pows_at (z : FVec Ideal S128x128 .f32) (sk : EReal) (r t : Fin 128) :
    pows z sk (ix2 r t) = Ideal.exp2 (z (ix2 r t) - top z sk (ix2 r 0)) := by
  pointwise [pows]
  rfl

/-- The weighted sums of the values' columns, before anything is known of the lanes. -/
theorem half_at (np : EReal) (qt : FVec Ideal S128x128 .bf16) (kk vv : FVec Ideal S256x128 .bf16) (snk : EReal) (r l : Fin 128) :
    half np qt kk vv snk (ix2 r l)
      = ((∑ t : Fin 128, if r.val < t.val then pows (kept np qt kk) (snk * L) (ix2 r t) * vv (ix2 ⟨t.val, by omega⟩ l) else 0)
          + ∑ t : Fin 128, if r.val < t.val then 0 else pows (kept np qt kk) (snk * L) (ix2 r t) * vv (ix2 ⟨128 + t.val, by omega⟩ l))
        * Ideal.div 1 ((∑ t : Fin 128, pows (kept np qt kk) (snk * L) (ix2 r t)) + Ideal.exp2 (snk * L - top (kept np qt kk) (snk * L) (ix2 r 0))) := by
  simp only [← pick]
  rw [← log2e_eq]
  pointwise [half]
  rfl

theorem half_eq {np : EReal} {qt : FVec Ideal S128x128 .bf16} {kk vv : FVec Ideal S256x128 .bf16} {snk : EReal} {r l : Fin 128}
    {qs : Fin 64 → EReal} {kP kC : Fin 128 → Fin 64 → EReal} {vP vC : Fin 128 → EReal}
    (hP : ∀ t : Fin 128, ∑ x : Fin 128, qt (ix2 r x) * kk (ix2 ⟨t.val, by omega⟩ x) = ∑ x, qs x * kP t x)
    (hC : ∀ t : Fin 128, ∑ x : Fin 128, qt (ix2 r x) * kk (ix2 ⟨128 + t.val, by omega⟩ x) = ∑ x, qs x * kC t x)
    (hvP : ∀ t : Fin 128, vv (ix2 ⟨t.val, by omega⟩ l) = vP t) (hvC : ∀ t : Fin 128, vv (ix2 ⟨128 + t.val, by omega⟩ l) = vC t) :
    half np qt kk vv snk (ix2 r l) = headOut r np qs kP kC vP vC snk := by
  rw [half_at]
  simp only [pows_at, top_at, kept_at, hP, hC, hvP, hvC]
  rfl

theorem half_zero {np : EReal} {qt : FVec Ideal S128x128 .bf16} {kk vv : FVec Ideal S256x128 .bf16} {snk : EReal} {r l : Fin 128}
    (h : ∀ t : Fin 256, vv (ix2 t l) = 0) : half np qt kk vv snk (ix2 r l) = 0 := by
  rw [half_at]
  simp only [h, mul_zero, ite_self, Finset.sum_const_zero, add_zero, zero_mul]

/-- A tile whose left lanes are the key head's, zeros right. -/
def IsLo (X : FVec Ideal S256x512 .f32) (kv : Fin 8) (k : FVec Ideal S256x128 .bf16) : Prop :=
  ∀ (t : Fin 256) (x : Fin 128), k (ix2 t x) = if hx : x.val < 64 then X (ix2 t ⟨kv.val * 64 + x.val, by omega⟩) else 0

/-- A tile whose right lanes are the key head's, zeros left. -/
def IsHi (X : FVec Ideal S256x512 .f32) (kv : Fin 8) (k : FVec Ideal S256x128 .bf16) : Prop :=
  ∀ (t : Fin 256) (x : Fin 128), k (ix2 t x) = if hx : x.val < 64 then 0 else X (ix2 t ⟨kv.val * 64 + (x.val - 64), by omega⟩)

theorem lo_at (x : FVec Ideal S256x128 .f32) (r : Fin 256) (l : Fin 128) : lo x (ix2 r l) = if l.val < 64 then x (ix2 r l) else 0 := by
  rw [← pickLane]
  pointwise [lo]
theorem hi_at (x : FVec Ideal S256x128 .f32) (r : Fin 256) (l : Fin 128) : hi x (ix2 r l) = if l.val < 64 then 0 else x (ix2 r l) := by
  rw [← pickLane]
  pointwise [hi]
theorem swap_at (x : FVec Ideal S256x128 .f32) (r : Fin 256) (l : Fin 128) :
    swap x (ix2 r l) = x (ix2 r ⟨(l.val + 128 - 64) % 128, by omega⟩) := by
  pointwise [swap]
theorem tile_at (o : ℕ) (x : FVec Ideal S256x512 .f32) (h : S256x512.Slices ![0, o] S256x128) (r : Fin 256) (l : Fin 128) (c : Fin 512)
    (hc : c.val = o + l.val) : tile o x h (ix2 r l) = x (ix2 r c) := by
  refine congrArg x ?_
  funext a
  apply Fin.ext
  match a with
  | ⟨0, _⟩ => exact Nat.zero_add _
  | ⟨1, _⟩ => exact hc.symm

variable {o : ℕ} {X : FVec Ideal S256x512 .f32} {h : S256x512.Slices ![0, o] S256x128} {kv : Fin 8}

theorem isLo_even (e : o = kv.val * 64) : IsLo X kv (lo (tile o X h)) := fun t x => by
  rw [lo_at]
  split_ifs with hx
  · exact tile_at _ _ _ _ _ _ (by simp only; omega)
  · rfl
theorem isLo_odd (e : o + 64 = kv.val * 64) : IsLo X kv (lo (swap (tile o X h))) := fun t x => by
  rw [lo_at]
  split_ifs with hx
  · rw [swap_at]; exact tile_at _ _ _ _ _ _ (by simp only; omega)
  · rfl
theorem isHi_even (e : o = kv.val * 64) : IsHi X kv (hi (swap (tile o X h))) := fun t x => by
  rw [hi_at]
  split_ifs with hx
  · rfl
  · rw [swap_at]; exact tile_at _ _ _ _ _ _ (by simp only; omega)
theorem isHi_odd (e : o + 64 = kv.val * 64) : IsHi X kv (hi (tile o X h)) := fun t x => by
  rw [hi_at]
  split_ifs with hx
  · rfl
  · exact tile_at _ _ _ _ _ _ (by simp only; omega)

/-- The block's output at a row and column, from its scaled queries, stacked keys and values and the sinks. -/
def blockOut (np : EReal) (Q : FVec Ideal S128x4096 .bf16) (X V : FVec Ideal S256x512 .f32) (s : FVec Ideal S64 .f32) (r : Fin 128) (c : Fin 4096) : EReal :=
  headOut r np (fun x => Q (ix2 r ⟨c.val / 64 * 64 + x.val, by omega⟩))
    (fun t x => X (ix2 ⟨t.val, by omega⟩ ⟨c.val / 512 * 64 + x.val, by omega⟩))
    (fun t x => X (ix2 ⟨128 + t.val, by omega⟩ ⟨c.val / 512 * 64 + x.val, by omega⟩))
    (fun t => V (ix2 ⟨t.val, by omega⟩ ⟨c.val / 512 * 64 + c.val % 64, by omega⟩))
    (fun t => V (ix2 ⟨128 + t.val, by omega⟩ ⟨c.val / 512 * 64 + c.val % 64, by omega⟩))
    (s (ix1 ⟨c.val / 64, by omega⟩))

theorem qtile_at (o : ℕ) (x : FVec Ideal S128x4096 .bf16) (h : S128x4096.Slices ![0, o] S128x128) (r : Fin 128) (l : Fin 128) (c : Fin 4096)
    (hc : c.val = o + l.val) : qtile o x h (ix2 r l) = x (ix2 r c) := by
  refine congrArg x ?_
  funext a
  apply Fin.ext
  match a with
  | ⟨0, _⟩ => exact Nat.zero_add _
  | ⟨1, _⟩ => exact hc.symm

/-- A pair of heads of one key head, in its tile of the output. -/
theorem pair_at {np : EReal} {Q : FVec Ideal S128x4096 .bf16} {X V : FVec Ideal S256x512 .f32} {s : FVec Ideal S64 .f32} {o : ℕ}
    {hq : S128x4096.Slices ![0, o] S128x128} {klo khi vlo vhi : FVec Ideal S256x128 .bf16} {s0 s1 : EReal} {kv : Fin 8}
    (ho : o % 128 = 0) (hkv : o / 512 = kv.val) (h1 : IsLo X kv klo) (h2 : IsHi X kv khi) (h3 : IsLo V kv vlo) (h4 : IsHi V kv vhi)
    (hs0 : ∀ a : Fin 64, a.val = o / 64 → s0 = s (ix1 a)) (hs1 : ∀ a : Fin 64, a.val = o / 64 + 1 → s1 = s (ix1 a))
    (r l : Fin 128) (c : Fin 4096) (hc : c.val = o + l.val) :
    pair np (qtile o Q hq) klo khi vlo vhi s0 s1 (ix2 r l) = blockOut np Q X V s r c := by
  have e : pair np (qtile o Q hq) klo khi vlo vhi s0 s1 (ix2 r l)
      = half np (qtile o Q hq) klo vlo s0 (ix2 r l) + half np (qtile o Q hq) khi vhi s1 (ix2 r l) := rfl
  rw [e]
  by_cases hl : l.val < 64
  · rw [half_zero (vv := vhi) fun t => by rw [h4, dif_pos hl], add_zero, hs0 ⟨c.val / 64, by omega⟩ (by simp only; omega)]
    refine half_eq (fun t => ?_) (fun t => ?_) (fun t => ?_) fun t => ?_
    · rw [Fin.sum_univ_two_halves 64 64 rfl]
      refine (congrArg₂ (· + ·) (Finset.sum_congr rfl fun x _ => ?_) (Finset.sum_eq_zero fun x _ => ?_)).trans (add_zero _)
      · exact congrArg₂ (· * ·) (qtile_at _ _ _ _ _ _ (by simp only; omega))
          ((h1 _ _).trans ((dif_pos x.isLt).trans (congrArg X (congrArg (ix2 _) (Fin.ext (by simp only; omega))))))
      · rw [h1, dif_neg (by simp only; omega), mul_zero]
    · rw [Fin.sum_univ_two_halves 64 64 rfl]
      refine (congrArg₂ (· + ·) (Finset.sum_congr rfl fun x _ => ?_) (Finset.sum_eq_zero fun x _ => ?_)).trans (add_zero _)
      · exact congrArg₂ (· * ·) (qtile_at _ _ _ _ _ _ (by simp only; omega))
          ((h1 _ _).trans ((dif_pos x.isLt).trans (congrArg X (congrArg (ix2 _) (Fin.ext (by simp only; omega))))))
      · rw [h1, dif_neg (by simp only; omega), mul_zero]
    · rw [h3, dif_pos hl]; exact congrArg V (congrArg (ix2 _) (Fin.ext (by simp only; omega)))
    · rw [h3, dif_pos hl]; exact congrArg V (congrArg (ix2 _) (Fin.ext (by simp only; omega)))
  · rw [half_zero (vv := vlo) fun t => by rw [h3, dif_neg hl], zero_add, hs1 ⟨c.val / 64, by omega⟩ (by simp only; omega)]
    refine half_eq (fun t => ?_) (fun t => ?_) (fun t => ?_) fun t => ?_
    · rw [Fin.sum_univ_two_halves 64 64 rfl]
      refine (congrArg₂ (· + ·) (Finset.sum_eq_zero fun x _ => ?_) (Finset.sum_congr rfl fun x _ => ?_)).trans (zero_add _)
      · rw [h2, dif_pos (by simp only; omega), mul_zero]
      · exact congrArg₂ (· * ·) (qtile_at _ _ _ _ _ _ (by simp only; omega))
          ((h2 _ _).trans ((dif_neg (by simp only; omega)).trans (congrArg X (congrArg (ix2 _) (Fin.ext (by simp only; omega))))))
    · rw [Fin.sum_univ_two_halves 64 64 rfl]
      refine (congrArg₂ (· + ·) (Finset.sum_eq_zero fun x _ => ?_) (Finset.sum_congr rfl fun x _ => ?_)).trans (zero_add _)
      · rw [h2, dif_pos (by simp only; omega), mul_zero]
      · exact congrArg₂ (· * ·) (qtile_at _ _ _ _ _ _ (by simp only; omega))
          ((h2 _ _).trans ((dif_neg (by simp only; omega)).trans (congrArg X (congrArg (ix2 _) (Fin.ext (by simp only; omega))))))
    · rw [h4, dif_neg hl]; exact congrArg V (congrArg (ix2 _) (Fin.ext (by simp only; omega)))
    · rw [h4, dif_neg hl]; exact congrArg V (congrArg (ix2 _) (Fin.ext (by simp only; omega)))

end Cert.Attn
-- ==== Proof.Pieces.lean ====
/-  The block the attention body stores, tile by tile. -/
module

public import proofs.«01_k».proof.Proof.Head

@[expose] public section

set_option maxRecDepth 16384

noncomputable section

namespace Cert.Attn

open Cert.KernelIdeal Cert.KernelIdeal.Gen Idealize.ShloMosaic Idealize.ShloMosaic.TcCoe Idealize.SL.Sem

variable {np : EReal} {Q : FVec Ideal S128x4096 .bf16} {X V : FVec Ideal S256x512 .f32} {s : FVec Ideal S64 .f32} {o u : ℕ}
  {hq : S128x4096.Slices ![0, o] S128x128} {hx hv : S256x512.Slices ![0, u] S256x128} {s0 s1 : EReal} {x : S128x128.Idx} {y : S128x4096.Idx}

/-- A stored tile of an even key head. -/
theorem even_at (ho : o % 128 = 0 ∧ o < 4096) (hu : u = o / 512 * 64) (hs0 : ∀ h, s0 = s (ix1 ⟨o / 64, h⟩)) (hs1 : ∀ h, s1 = s (ix1 ⟨o / 64 + 1, h⟩))
    (h0 : (y 0).val = (x 0).val) (h1 : (y 1).val = o + (x 1).val) :
    pair np (qtile o Q hq) (lo (tile u X hx)) (hi (swap (tile u X hx))) (lo (tile u V hv)) (hi (swap (tile u V hv))) s0 s1 x
      = blockOut np Q X V s (y 0) (y 1) := by
  have e : x = ix2 (y 0) (x 1) := by rw [eq_ix2 x]; exact congrArg (fun a => ix2 a _) (Fin.ext h0.symm)
  rw [e]
  exact pair_at (kv := ⟨o / 512, by omega⟩) ho.1 rfl (isLo_even hu) (isHi_even hu) (isLo_even hu) (isHi_even hu)
    (fun a ha => by cases a; subst ha; exact hs0 _) (fun a ha => by cases a; subst ha; exact hs1 _) (y 0) (x 1) (y 1) h1

/-- A stored tile of an odd key head. -/
theorem odd_at (ho : o % 128 = 0 ∧ o < 4096) (hu : u + 64 = o / 512 * 64) (hs0 : ∀ h, s0 = s (ix1 ⟨o / 64, h⟩)) (hs1 : ∀ h, s1 = s (ix1 ⟨o / 64 + 1, h⟩))
    (h0 : (y 0).val = (x 0).val) (h1 : (y 1).val = o + (x 1).val) :
    pair np (qtile o Q hq) (lo (swap (tile u X hx))) (hi (tile u X hx)) (lo (swap (tile u V hv))) (hi (tile u V hv)) s0 s1 x
      = blockOut np Q X V s (y 0) (y 1) := by
  have e : x = ix2 (y 0) (x 1) := by rw [eq_ix2 x]; exact congrArg (fun a => ix2 a _) (Fin.ext h0.symm)
  rw [e]
  exact pair_at (kv := ⟨o / 512, by omega⟩) ho.1 rfl (isLo_odd hu) (isHi_odd hu) (isLo_odd hu) (isHi_odd hu)
    (fun a ha => by cases a; subst ha; exact hs0 _) (fun a ha => by cases a; subst ha; exact hs1 _) (y 0) (x 1) (y 1) h1

set_option maxHeartbeats 3200000 in
theorem pieces (c : Dev nD) (i : grid0.Coords) (arg2 : Memref sig .tc .smem S64 .f32) (harg2 : arg2.IsWhole) (arg3 : Memref sig .tc .vmem S128x4096 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S128x4096 .bf16) (harg8 : arg8.IsWhole)
    (x0 : Vec Ideal S64 .f32) (x1 : Vec Ideal S128x4096 .bf16) (x2 : Vec Ideal S128x512 .bf16) (x3 : Vec Ideal S128x512 .bf16) (x4 : Vec Ideal S128x512 .bf16) (x5 : Vec Ideal S128x512 .bf16) (y : S128x4096.Idx) :
    out0_A_6 c i arg2 harg2 arg3 harg3 arg4 harg4 arg5 harg5 arg6 harg6 arg7 harg7 arg8 harg8 x0 x1 x2 x3 x4 x5 y
      = blockOut (k0_pay6 (F := Ideal) i : EReal) (k0_pay2 x1) (k0_pay3 x3 x2) (k0_pay4 x5 x4) x0 (y 0) (y 1) := by
  frame_out
  canon_tiles x h
  all_goals open_payloads
  iterate 4 (on_goal 1 => (refine odd_at (u := 384) (by decide) (by decide) (fun _ => ?_) (fun _ => ?_) h0 h1 <;> pointwise))
  iterate 4 (on_goal 1 => (refine even_at (u := 384) (by decide) (by decide) (fun _ => ?_) (fun _ => ?_) h0 h1 <;> pointwise))
  iterate 4 (on_goal 1 => (refine odd_at (u := 256) (by decide) (by decide) (fun _ => ?_) (fun _ => ?_) h0 h1 <;> pointwise))
  iterate 4 (on_goal 1 => (refine even_at (u := 256) (by decide) (by decide) (fun _ => ?_) (fun _ => ?_) h0 h1 <;> pointwise))
  iterate 4 (on_goal 1 => (refine odd_at (u := 128) (by decide) (by decide) (fun _ => ?_) (fun _ => ?_) h0 h1 <;> pointwise))
  iterate 4 (on_goal 1 => (refine even_at (u := 128) (by decide) (by decide) (fun _ => ?_) (fun _ => ?_) h0 h1 <;> pointwise))
  iterate 4 (on_goal 1 => (refine odd_at (u := 0) (by decide) (by decide) (fun _ => ?_) (fun _ => ?_) h0 h1 <;> pointwise))
  iterate 3 (on_goal 1 => (refine even_at (u := 0) (by decide) (by decide) (fun _ => ?_) (fun _ => ?_) h0 h1 <;> pointwise))
  refine even_at (u := 0) (by decide) (by decide) (fun _ => ?_) (fun _ => ?_) h0 (h1.trans (Nat.zero_add _).symm) <;> pointwise

end Cert.Attn
-- ==== Proof.Final.lean ====
/-  The attention call's whole result, from the joined array it reads. -/
module

public import proofs.«01_k».proof.Proof.Pieces

@[expose] public section

set_option maxRecDepth 16384

noncomputable section

namespace Cert.Attn

open Cert.KernelIdeal Cert.KernelIdeal.Gen Idealize.ShloMosaic Idealize.ShloMosaic.TcCoe Idealize.SL.Sem
open Idealize.ShloMosaic.Pipeline (Dat)

/-- The query scale times the reciprocal of log 2. -/
def qs : EReal := (((1 / 8) * (Real.log 2)⁻¹ : ℝ) : EReal)

theorem qscale_eq : (Named.named κ "qscale" 0x3E38AA3B#32 : Ideal .f32) = qs :=
  IdealRules.named_const.ideal_named_scalar _ _ _ _ rfl

/-- The result at a row and column: row `i` of block `i / 128`, its queries, its block's keys and values and those of the block before. -/
def outAt (W : FVec Ideal S16384x5120 .bf16) (s : FVec Ideal S64 .f32) (i : Fin 16384) (c : Fin 4096) : EReal :=
  headOut ⟨i.val % 128, by omega⟩ (if 0 < i.val / 128 % 32 then 0 else ⊥) (fun x => W (ix2 i ⟨c.val / 64 * 64 + x.val, by omega⟩) * qs)
    (fun t x => W (ix2 ⟨(if i.val / 128 % 32 = 0 then i.val / 128 else i.val / 128 - 1) * 128 + t.val, by split <;> omega⟩ ⟨4096 + (c.val / 512 * 64 + x.val), by omega⟩))
    (fun t x => W (ix2 ⟨i.val / 128 * 128 + t.val, by omega⟩ ⟨4096 + (c.val / 512 * 64 + x.val), by omega⟩))
    (fun t => W (ix2 ⟨(if i.val / 128 % 32 = 0 then i.val / 128 else i.val / 128 - 1) * 128 + t.val, by split <;> omega⟩ ⟨4608 + (c.val / 512 * 64 + c.val % 64), by omega⟩))
    (fun t => W (ix2 ⟨i.val / 128 * 128 + t.val, by omega⟩ ⟨4608 + (c.val / 512 * 64 + c.val % 64), by omega⟩))
    (s (ix1 ⟨c.val / 64, by omega⟩))

theorem coords1 : ∀ t : Fin cfg0.N, ((grid0.coords t) 1).val = t.val % 32 := (by decide +kernel : ∀ t : Fin grid0.N, ((grid0.coords t) 1).val = t.val % 32)
theorem index0 : ∀ t : Fin cfg0.N, win0_0.index t = ![0] := (by decide +kernel : ∀ t : Fin grid0.N, win0_0.index t = ![0])
theorem index1 : ∀ t : Fin cfg0.N, win0_1.index t = ![t.val, 0] := (by decide +kernel : ∀ t : Fin grid0.N, win0_1.index t = ![t.val, 0])
theorem index2 : ∀ t : Fin cfg0.N, win0_2.index t = ![t.val, 8] := (by decide +kernel : ∀ t : Fin grid0.N, win0_2.index t = ![t.val, 8])
theorem index3 : ∀ t : Fin cfg0.N, win0_3.index t = ![if t.val % 32 = 0 then t.val else t.val - 1, 8] :=
  (by decide +kernel : ∀ t : Fin grid0.N, win0_3.index t = ![if t.val % 32 = 0 then t.val else t.val - 1, 8])
theorem index4 : ∀ t : Fin cfg0.N, win0_4.index t = ![t.val, 9] := (by decide +kernel : ∀ t : Fin grid0.N, win0_4.index t = ![t.val, 9])
theorem index5 : ∀ t : Fin cfg0.N, win0_5.index t = ![if t.val % 32 = 0 then t.val else t.val - 1, 9] :=
  (by decide +kernel : ∀ t : Fin grid0.N, win0_5.index t = ![if t.val % 32 = 0 then t.val else t.val - 1, 9])
theorem index6 : ∀ t : Fin cfg0.N, win0_6.index t = ![t.val, 0] := (by decide +kernel : ∀ t : Fin grid0.N, win0_6.index t = ![t.val, 0])

theorem pay2_at (x1 : FVec Ideal S128x4096 .bf16) (r : Fin 128) (c : Fin 4096) : k0_pay2 (F := Ideal) x1 (ix2 r c) = x1 (ix2 r c) * qs := by
  rw [← qscale_eq]
  pointwise [k0_pay2]

theorem pay3_prev (x3 x2 : FVec Ideal S128x512 .bf16) (t : Fin 128) (c : Fin 512) : k0_pay3 (F := Ideal) x3 x2 (ix2 ⟨t.val, by omega⟩ c) = x3 (ix2 t c) := by
  pointwise [k0_pay3]
theorem pay3_cur (x3 x2 : FVec Ideal S128x512 .bf16) (t : Fin 128) (c : Fin 512) : k0_pay3 (F := Ideal) x3 x2 (ix2 ⟨128 + t.val, by omega⟩ c) = x2 (ix2 t c) := by
  pointwise [k0_pay3]
theorem pay4_prev (x3 x2 : FVec Ideal S128x512 .bf16) (t : Fin 128) (c : Fin 512) : k0_pay4 (F := Ideal) x3 x2 (ix2 ⟨t.val, by omega⟩ c) = x3 (ix2 t c) := by
  pointwise [k0_pay4]
theorem pay4_cur (x3 x2 : FVec Ideal S128x512 .bf16) (t : Fin 128) (c : Fin 512) : k0_pay4 (F := Ideal) x3 x2 (ix2 ⟨128 + t.val, by omega⟩ c) = x2 (ix2 t c) := by
  pointwise [k0_pay4]

theorem pay6_eq (t : Fin cfg0.N) : (k0_pay6 (F := Ideal) (grid0.coords t) : EReal) = if 0 < t.val % 32 then 0 else ⊥ := by
  have h : t.val < 128 := lt_of_lt_of_eq t.isLt (by decide)
  rw [← Consts.neg_inf, ← coords1 t]
  have hc := coords1 t
  have hb : ((grid0.coords t) 1).val < 32 := by omega
  simp only [k0_pay6]
  generalize ((grid0.coords t) 1).val = n at hb
  have e : Scalar.cmpi .sgt (BitVec.ofNat 32 n) 0#32 = BitVec.ofBool (decide (0 < n)) := by
    show IntOp.cmpi .sgt (BitVec.ofNat 32 n) (BitVec.ofNat 32 0) = _
    simp (disch := omega) only [hlo_ix]
  rw [e]
  by_cases hn : 0 < n
  · rw [if_pos hn, decide_eq_true hn]; exact Ideal.ofBits_zero_f32
  · rw [if_neg hn, decide_eq_false hn]; rfl

variable (m : (ℓ : Loc nD τ sig) → Buf (Elt Ideal) ℓ) (c : Dev nD)

theorem pts (t : Fin cfg0.N) : t.val < 128 := lt_of_lt_of_eq t.isLt (by decide)

/-- The joined array as the call finds it. -/
abbrev joined : FVec Ideal S16384x5120 .bf16 := V m c main_v4

theorem block0 (t : Fin cfg0.N) (a : Fin 64) : iblk m c 0 t (ix1 a) = m ((c.tc : Thread nD τ).loc main_arg3) (ix1 a) := by
  blk_point [iblk, V, index0 t]
theorem block2 (t : Fin cfg0.N) (r : Fin 128) (l : Fin 512) : iblk m c 2 t (ix2 r l)
    = joined m c (ix2 ⟨t.val * 128 + r.val, by have := pts t; omega⟩ ⟨4096 + l.val, by omega⟩) := by
  refine congrArg (joined m c) (?_ : ((cfg0.win 2).blk t).view.emb (ix2 r l) = _)
  blk_ext [index2 t]
theorem block3 (t : Fin cfg0.N) (r : Fin 128) (l : Fin 512) : iblk m c 3 t (ix2 r l)
    = joined m c (ix2 ⟨(if t.val % 32 = 0 then t.val else t.val - 1) * 128 + r.val, by have := pts t; split <;> omega⟩ ⟨4096 + l.val, by omega⟩) := by
  refine congrArg (joined m c) (?_ : ((cfg0.win 3).blk t).view.emb (ix2 r l) = _)
  blk_ext [index3 t]
theorem block4 (t : Fin cfg0.N) (r : Fin 128) (l : Fin 512) : iblk m c 4 t (ix2 r l)
    = joined m c (ix2 ⟨t.val * 128 + r.val, by have := pts t; omega⟩ ⟨4608 + l.val, by omega⟩) := by
  refine congrArg (joined m c) (?_ : ((cfg0.win 4).blk t).view.emb (ix2 r l) = _)
  blk_ext [index4 t]
theorem block5 (t : Fin cfg0.N) (r : Fin 128) (l : Fin 512) : iblk m c 5 t (ix2 r l)
    = joined m c (ix2 ⟨(if t.val % 32 = 0 then t.val else t.val - 1) * 128 + r.val, by have := pts t; split <;> omega⟩ ⟨4608 + l.val, by omega⟩) := by
  refine congrArg (joined m c) (?_ : ((cfg0.win 5).blk t).view.emb (ix2 r l) = _)
  blk_ext [index5 t]
theorem block1 (t : Fin cfg0.N) (r : Fin 128) (l : Fin 4096) : X0_1 m c t (ix2 r l)
    = joined m c (ix2 ⟨t.val * 128 + r.val, by have := pts t; omega⟩ ⟨l.val, by omega⟩) := by
  unfold X0_1 Pipeline.Window.fill
  rw [dif_pos (moved0_1 t _)]
  refine congrArg (joined m c) (?_ : ((cfg0.win 1).blk t).view.emb _ = _)
  blk_ext [index1 t]

/-- What a grid point stores, of its row and column. -/
theorem point (t : Fin cfg0.N) (r : Fin 128) (l : Fin 4096) : outsAt0 m c t (ix2 r l)
    = outAt (joined m c) (m ((c.tc : Thread nD τ).loc main_arg3)) ⟨t.val * 128 + r.val, by have := pts t; omega⟩ l := by
  have ht := pts t
  have e1 : (t.val * 128 + r.val) / 128 = t.val := by omega
  have e2 : (t.val * 128 + r.val) % 128 = r.val := by omega
  rw [outsAt0, pieces, pay6_eq]
  unfold blockOut outAt
  simp only [e1, e2, pay2_at, pay3_prev, pay3_cur, pay4_prev, pay4_cur, block1, block2, block3, block4, block5]
  congr 1
  · exact funext fun x => (pay2_at _ _ _).trans (congrArg (· * qs) (block1 m c t r _))
  · exact block0 m c t _

/-- The array the grid leaves. -/
theorem final : (dats m 0 c).arrAt 6 cfg0.N = fun i : S16384x4096.Idx => outAt (joined m c) (m ((c.tc : Thread nD τ).loc main_arg3)) (i 0) (i 1) := by
  refine (dats m 0 c).arrAt_eq_of_covers 6 _ (by decide +kernel) fun t hf y => ?_
  blk_simp
  rw [after0_6]
  change S128x4096.Idx at y
  have hy : y = (ix2 (y 0 : Fin 128) (y 1 : Fin 4096) : S128x4096.Idx) := by
    funext k; fin_cases k <;> rfl
  have he : ((cfg0.win 6).blk t).view.emb (ix2 (y 0 : Fin 128) (y 1 : Fin 4096))
      = ix2 ⟨t.val * 128 + (y 0 : Fin 128).val, by have := pts t; have : (y 0).val < 128 := (y 0).isLt; omega⟩ (y 1 : Fin 4096) := by
    blk_ext [index6 t]
  refine (congrArg (outsAt0 m c t) hy).trans ((point m c t (y 0) (y 1)).trans ?_)
  have hz := (congrArg ((cfg0.win 6).blk t).view.emb hy).trans he
  exact (congrArg (fun z : S16384x4096.Idx => outAt (joined m c) (m ((c.tc : Thread nD τ).loc main_arg3)) (z 0) (z 1)) hz).symm

end Cert.Attn
-- ==== Proof.Join.lean ====
/-  The joined array of queries, keys and values, read at its columns. -/
module

public import proofs.«01_k».proof.Proof.Final
public import Idealize.ShloMosaic.Lib.Claim

@[expose] public section

set_option maxRecDepth 16384

noncomputable section

namespace Cert.Attn

open Cert.KernelIdeal Cert.KernelIdeal.Gen Idealize.ShloMosaic Idealize.ShloMosaic.TcCoe Idealize.SL.Sem

/-- Queries, keys and values as rows, side by side. -/
def join (q : FVec Ideal S4x4096x64x64 .f32) (k v : FVec Ideal S4x4096x8x64 .f32) : FVec Ideal S16384x5120 .bf16 :=
  truncf .bf16 (concatenate S16384x5120 1 [⟨S16384x4096, shapeCast S16384x4096 q shapeCasts_S4x4096x64x64_S16384x4096⟩,
    ⟨S16384x512, shapeCast S16384x512 k shapeCasts_S4x4096x8x64_S16384x512⟩, ⟨S16384x512, shapeCast S16384x512 v shapeCasts_S4x4096x8x64_S16384x512⟩]
    concatenates_S16384x4096_S16384x512_S16384x512_S16384x5120_d1) bitsLt_bf16_f32

theorem joined_eq (m : (ℓ : Loc nD τ sig) → Buf (Elt Ideal) ℓ) (c : Dev nD) : joined m c
    = join (m ((c.tc : Thread nD τ).loc main_arg0)) (m ((c.tc : Thread nD τ).loc main_arg1)) (m ((c.tc : Thread nD τ).loc main_arg2)) := by
  unfold joined V
  after_results
  rfl

variable (q : FVec Ideal S4x4096x64x64 .f32) (k v : FVec Ideal S4x4096x8x64 .f32)

theorem join_q (b : Fin 4) (p : Fin 4096) (h x : Fin 64) :
    join q k v (ix2 ⟨b.val * 4096 + p.val, by omega⟩ ⟨h.val * 64 + x.val, by omega⟩) = q (ix4 b p h x) := by
  pointwise [join]
  exact dif_pos (by omega)

theorem join_k (b : Fin 4) (p : Fin 4096) (h : Fin 8) (x : Fin 64) :
    join q k v (ix2 ⟨b.val * 4096 + p.val, by omega⟩ ⟨4096 + (h.val * 64 + x.val), by omega⟩) = k (ix4 b p h x) := by
  pointwise [join]
  exact dif_pos (by omega)

theorem join_v (b : Fin 4) (p : Fin 4096) (h : Fin 8) (x : Fin 64) :
    join q k v (ix2 ⟨b.val * 4096 + p.val, by omega⟩ ⟨4608 + (h.val * 64 + x.val), by omega⟩) = v (ix4 b p h x) := by
  pointwise [join]
  rw [dif_neg (by omega), dif_neg (by omega)]
  exact congrArg₂ (fun a c => v (ix4 b p a c)) (Fin.ext (by simp only; omega)) (Fin.ext (by simp only; omega))

end Cert.Attn
-- ==== Proof.Soft.lean ====
/-  A sliding window's softmax in base two over the kept scores is the softmax over the whole band with its sink. -/
module

public import Idealize.ShloMosaic.PureOps.Ideal.Laws
public import Idealize.ShloMosaic.Lib.Pointwise
public import Mathlib.Analysis.SpecialFunctions.Pow.Real

@[expose] public section

noncomputable section

namespace Cert.Soft

open Idealize.ShloMosaic

/-- A maximum from minus infinity of numbers below plus infinity, one of them real, is real. -/
theorem fold_real {n : ℕ} {f : Fin n → EReal} (hf : ∀ t, f t ≠ ⊤) (s : ℝ) :
    ∃ x : ℝ, max (Finset.univ.fold max ⊥ f) (s : EReal) = x := by
  have hlt : Finset.univ.fold max ⊥ f < (⊤ : EReal) := (Finset.fold_max_lt _).2 ⟨bot_lt_top, fun t _ => lt_top_iff_ne_top.2 (hf t)⟩
  have hm : max (Finset.univ.fold max ⊥ f) (s : EReal) < ⊤ := max_lt hlt (EReal.coe_lt_top s)
  have hb : (⊥ : EReal) < max (Finset.univ.fold max ⊥ f) (s : EReal) := lt_of_lt_of_le (EReal.bot_lt_coe s) (le_max_right _ _)
  exact ⟨_, (EReal.coe_toReal hm.ne hb.ne').symm⟩

/-- A real factor from the right of a sum of extended reals goes inside, when it is not negative. -/
theorem sum_mul_real {ι : Type} (S : Finset ι) (f : ι → EReal) {c : ℝ} (hc : 0 ≤ c) :
    (∑ i ∈ S, f i) * (c : EReal) = ∑ i ∈ S, f i * (c : EReal) := by
  classical
  induction S using Finset.induction_on with
  | empty => simp
  | insert a S ha ih =>
    rw [Finset.sum_insert ha, Finset.sum_insert ha, EReal.right_distrib_of_nonneg_of_ne_top (by exact_mod_cast hc) (EReal.coe_ne_top c), ih]

/-- A power of two of a difference scaled by the reciprocal of log 2 is the exponential of the difference. -/
theorem exp2_scaled (x y : ℝ) : Ideal.exp2 (((Real.log 2)⁻¹ * x : ℝ) - ((Real.log 2)⁻¹ * y : ℝ) : EReal) = ((Real.exp (x - y) : ℝ) : EReal) := by
  have h : Real.log 2 ≠ 0 := (Real.log_pos one_lt_two).ne'
  rw [← EReal.coe_sub, Ideal.exp2_coe]
  congr 1
  rw [show Real.rpow 2 ((Real.log 2)⁻¹ * x - (Real.log 2)⁻¹ * y) = (2 : ℝ) ^ ((Real.log 2)⁻¹ * x - (Real.log 2)⁻¹ * y) from rfl, Real.rpow_def_of_pos two_pos]
  congr 1
  field_simp

/-- The weight of a score in its row. -/
def wt (M : ℝ) (keep : Prop) [Decidable keep] (a : ℝ) : ℝ := if keep then Real.exp (a - M) else 0

theorem wt_nonneg (M : ℝ) (keep : Prop) [Decidable keep] (a : ℝ) : 0 ≤ wt M keep a := by
  unfold wt; split_ifs <;> positivity

theorem exp_wt (M : ℝ) (keep : Prop) [Decidable keep] (a : ℝ) :
    Ideal.exp ((if keep then (a : EReal) else ⊥) - (M : EReal)) = ((wt M keep a : ℝ) : EReal) := by
  unfold wt; split_ifs
  · rw [← EReal.coe_sub, Ideal.exp_coe]
  · rw [EReal.bot_sub, Ideal.exp_bot]; rfl

theorem exp2_wt (M : ℝ) (keep : Prop) [Decidable keep] (a : ℝ) :
    Ideal.exp2 ((if keep then (((Real.log 2)⁻¹ * a : ℝ) : EReal) else ⊥) - (((Real.log 2)⁻¹ * M : ℝ) : EReal)) = ((wt M keep a : ℝ) : EReal) := by
  unfold wt; split_ifs
  · exact exp2_scaled _ _
  · rw [EReal.bot_sub, Ideal.exp2_bot]; rfl

section

variable (p : Fin 128 → Prop) [DecidablePred p] (fst : Prop) [Decidable fst] (aP aC : Fin 128 → ℝ) (s : ℝ)

/-- The score a row keeps for a column: the block before's where `p`, its own elsewhere. -/
def scaled (t : Fin 128) : EReal :=
  if p t then (((Real.log 2)⁻¹ * aP t : ℝ) : EReal) + (if fst then ⊥ else 0) else (((Real.log 2)⁻¹ * aC t : ℝ) : EReal)

/-- The row of the whole band, its sink last. -/
structure IsRow (row : Fin 257 → EReal) : Prop where
  prev : ∀ t : Fin 128, row ⟨t.val, by omega⟩ = if p t ∧ ¬fst then (aP t : EReal) else ⊥
  cur : ∀ t : Fin 128, row ⟨128 + t.val, by omega⟩ = if ¬p t then (aC t : EReal) else ⊥
  sink : row ⟨256, by omega⟩ = s

variable {p fst aP aC s} {row : Fin 257 → EReal}

theorem IsRow.all (h : IsRow p fst aP aC s row) {Q : EReal → Prop} (hb : Q ⊥) (hp : ∀ t, p t → ¬fst → Q (aP t)) (hc : ∀ t, ¬p t → Q (aC t))
    (hs : Q s) (t : Fin 257) : Q (row t) := by
  by_cases h1 : t.val < 128
  · have e := h.prev ⟨t.val, h1⟩
    rw [show row t = _ from e]
    split_ifs with hq
    · exact hp _ hq.1 hq.2
    · exact hb
  · by_cases h2 : t.val < 256
    · have e := h.cur ⟨t.val - 128, by omega⟩
      rw [show row t = row ⟨128 + (t.val - 128), by omega⟩ from congrArg row (Fin.ext (by simp only; omega)), e]
      split_ifs with hq
      · exact hb
      · exact hc _ hq
    · rw [show row t = row ⟨256, by omega⟩ from congrArg row (Fin.ext (by simp only; omega)), h.sink]
      exact hs

theorem scaled_eq (t : Fin 128) : scaled p fst aP aC t
    = if p t then (if ¬fst then (((Real.log 2)⁻¹ * aP t : ℝ) : EReal) else ⊥) else (((Real.log 2)⁻¹ * aC t : ℝ) : EReal) := by
  unfold scaled
  by_cases h : fst <;> simp [h]

/-- The scaled scores' maximum is the scaled maximum of the band's row. -/
theorem IsRow.max_eq (h : IsRow p fst aP aC s row) : ∃ M : ℝ, max ⊥ (Finset.univ.fold max ⊥ row) = (M : EReal)
    ∧ max (Finset.univ.fold max ⊥ (scaled p fst aP aC)) (((Real.log 2)⁻¹ * s : ℝ) : EReal) = (((Real.log 2)⁻¹ * M : ℝ) : EReal) := by
  have hL : 0 < (Real.log 2)⁻¹ := inv_pos.2 (Real.log_pos one_lt_two)
  obtain ⟨M, hM⟩ := fold_real (f := row) (fun t => h.all (Q := fun x => x ≠ ⊤) bot_ne_top (fun _ _ _ => EReal.coe_ne_top _) (fun _ _ => EReal.coe_ne_top _) (EReal.coe_ne_top _) t) s
  obtain ⟨m, hm⟩ := fold_real (f := scaled p fst aP aC) (fun t => by
    rw [scaled_eq]; split_ifs <;> first | exact EReal.coe_ne_top _ | exact bot_ne_top) ((Real.log 2)⁻¹ * s)
  have hrow : ∀ t, row t ≤ Finset.univ.fold max ⊥ row := fun t => (Finset.le_fold_max _).2 (.inr ⟨t, Finset.mem_univ t, le_rfl⟩)
  have hM' : Finset.univ.fold max ⊥ row = (M : EReal) := by
    rw [← hM, max_eq_left]; rw [← h.sink]; exact hrow _
  have hsc : ∀ t, scaled p fst aP aC t ≤ (m : EReal) := fun t => hm ▸ le_max_of_le_left ((Finset.le_fold_max _).2 (.inr ⟨t, Finset.mem_univ t, le_rfl⟩))
  have hms : (((Real.log 2)⁻¹ * s : ℝ) : EReal) ≤ (m : EReal) := hm ▸ le_max_right _ _
  refine ⟨M, by rw [hM', max_eq_right bot_le], ?_⟩
  rw [hm]
  refine congrArg _ (le_antisymm ?_ ?_)
  · have hrowM : ∀ t, row t ≤ (M : EReal) := fun t => hM' ▸ hrow t
    have : (m : EReal) ≤ (((Real.log 2)⁻¹ * M : ℝ) : EReal) := by
      rw [← hm]
      refine max_le ((Finset.fold_max_le _).2 ⟨bot_le, fun t _ => ?_⟩) ?_
      · rw [scaled_eq]
        split_ifs with h1 h2
        · exact bot_le
        · have e := hrowM ⟨t.val, by omega⟩
          rw [h.prev t, if_pos ⟨h1, h2⟩] at e
          exact EReal.coe_le_coe_iff.2 (mul_le_mul_of_nonneg_left (EReal.coe_le_coe_iff.1 e) hL.le)
        · have e := hrowM ⟨128 + t.val, by omega⟩
          rw [h.cur t, if_pos h1] at e
          exact EReal.coe_le_coe_iff.2 (mul_le_mul_of_nonneg_left (EReal.coe_le_coe_iff.1 e) hL.le)
      · have e := hrowM ⟨256, by omega⟩
        rw [h.sink] at e
        exact EReal.coe_le_coe_iff.2 (mul_le_mul_of_nonneg_left (EReal.coe_le_coe_iff.1 e) hL.le)
    exact EReal.coe_le_coe_iff.1 this
  · have key : ∀ a : ℝ, (Real.log 2)⁻¹ * a ≤ m → (a : EReal) ≤ ((m / (Real.log 2)⁻¹ : ℝ) : EReal) := fun a ha =>
      EReal.coe_le_coe_iff.2 ((le_div_iff₀ hL).2 (by linarith [mul_comm a (Real.log 2)⁻¹]))
    have : (M : EReal) ≤ ((m / (Real.log 2)⁻¹ : ℝ) : EReal) := by
      rw [← hM']
      refine (Finset.fold_max_le _).2 ⟨bot_le, fun t _ => h.all (Q := fun x => x ≤ _) bot_le (fun t h1 h2 => key _ ?_) (fun t h1 => key _ ?_) (key _ ?_) t⟩
      · have e := hsc t
        rw [scaled_eq, if_pos h1, if_pos h2] at e
        exact EReal.coe_le_coe_iff.1 e
      · have e := hsc t
        rw [scaled_eq, if_neg h1] at e
        exact EReal.coe_le_coe_iff.1 e
      · exact EReal.coe_le_coe_iff.1 hms
    have e := EReal.coe_le_coe_iff.1 this
    rw [le_div_iff₀ hL] at e
    linarith [mul_comm M (Real.log 2)⁻¹]

/-- The row's exponentials over their total, weighing the band's values, are the kept powers of two weighing the two blocks' values,
    over their total. -/
theorem IsRow.soft (h : IsRow p fst aP aC s row) (uP vP vC : Fin 128 → EReal) (hu : ¬fst → uP = vP) {M D m : EReal}
    (hM : M = max ⊥ (Finset.univ.fold max ⊥ row)) (hD : D = 0 + ∑ t, Ideal.exp (row t - M))
    (hm : m = max (Finset.univ.fold max ⊥ (scaled p fst aP aC)) (((Real.log 2)⁻¹ * s : ℝ) : EReal)) :
    (∑ t : Fin 128, uP t * Ideal.div (Ideal.exp (row ⟨t.val, by omega⟩ - M)) D)
        + ∑ t : Fin 128, vC t * Ideal.div (Ideal.exp (row ⟨128 + t.val, by omega⟩ - M)) D
      = ((∑ t : Fin 128, if p t then Ideal.exp2 (scaled p fst aP aC t - m) * vP t else 0)
        + ∑ t : Fin 128, if p t then 0 else Ideal.exp2 (scaled p fst aP aC t - m) * vC t)
        * Ideal.div 1 ((∑ t : Fin 128, Ideal.exp2 (scaled p fst aP aC t - m)) + Ideal.exp2 ((((Real.log 2)⁻¹ * s : ℝ) : EReal) - m)) := by
  obtain ⟨M0, e1, e2⟩ := h.max_eq
  rw [e1] at hM; rw [e2] at hm
  have eP : ∀ t : Fin 128, Ideal.exp (row ⟨t.val, by omega⟩ - M) = ((wt M0 (p t ∧ ¬fst) (aP t) : ℝ) : EReal) := fun t => by
    rw [h.prev, hM]; exact exp_wt _ _ _
  have eC : ∀ t : Fin 128, Ideal.exp (row ⟨128 + t.val, by omega⟩ - M) = ((wt M0 (¬p t) (aC t) : ℝ) : EReal) := fun t => by
    rw [h.cur, hM]; exact exp_wt _ _ _
  have eS : Ideal.exp (row ⟨256, by omega⟩ - M) = ((Real.exp (s - M0) : ℝ) : EReal) := by
    rw [h.sink, hM, ← EReal.coe_sub, Ideal.exp_coe]
  have eK : ∀ t : Fin 128, Ideal.exp2 (scaled p fst aP aC t - m) = ((wt M0 (p t ∧ ¬fst) (aP t) + wt M0 (¬p t) (aC t) : ℝ) : EReal) := fun t => by
    rw [hm, scaled_eq]
    by_cases h1 : p t
    · rw [if_pos h1, exp2_wt]
      unfold wt
      simp [h1]
    · rw [if_neg h1, exp2_scaled]
      unfold wt
      simp [h1]
  have eKS : Ideal.exp2 ((((Real.log 2)⁻¹ * s : ℝ) : EReal) - m) = ((Real.exp (s - M0) : ℝ) : EReal) := by
    rw [hm]; exact exp2_scaled _ _
  let T : ℝ := (∑ t : Fin 128, wt M0 (p t ∧ ¬fst) (aP t)) + (∑ t : Fin 128, wt M0 (¬p t) (aC t)) + Real.exp (s - M0)
  have hT : 0 < T := add_pos_of_nonneg_of_pos (add_nonneg (Finset.sum_nonneg fun _ _ => wt_nonneg _ _ _) (Finset.sum_nonneg fun _ _ => wt_nonneg _ _ _)) (Real.exp_pos _)
  have coe_sum : ∀ f : Fin 128 → ℝ, (∑ t, (f t : EReal)) = ((∑ t, f t : ℝ) : EReal) := fun f => by
    induction (Finset.univ : Finset (Fin 128)) using Finset.induction_on with
    | empty => simp
    | insert a S ha ih => rw [Finset.sum_insert ha, Finset.sum_insert ha, EReal.coe_add, ih]
  have hDT : D = (T : EReal) := by
    rw [hD, zero_add, Fin.sum_univ_two_halves 256 1 rfl, Fin.sum_univ_two_halves 128 128 rfl, Fin.sum_univ_one]
    rw [Finset.sum_congr rfl fun t _ => eP t, Finset.sum_congr rfl fun t _ => eC t, show Ideal.exp (row ⟨256 + (0 : Fin 1).val, _⟩ - M) = _ from eS,
      coe_sum, coe_sum, ← EReal.coe_add, ← EReal.coe_add]
  have hKT : (∑ t : Fin 128, Ideal.exp2 (scaled p fst aP aC t - m)) + Ideal.exp2 ((((Real.log 2)⁻¹ * s : ℝ) : EReal) - m) = (T : EReal) := by
    rw [Finset.sum_congr rfl fun t _ => eK t, eKS, coe_sum, ← EReal.coe_add, Finset.sum_add_distrib]
  have hT' : (0 : ℝ) ≤ 1 / T := (one_div_pos.2 hT).le
  rw [hKT, hDT, Ideal.div_coe hT.ne', one_mul, EReal.right_distrib_of_nonneg_of_ne_top (by exact_mod_cast hT') (EReal.coe_ne_top _),
    sum_mul_real _ _ hT', sum_mul_real _ _ hT']
  refine congrArg₂ (· + ·) (Finset.sum_congr rfl fun t _ => ?_) (Finset.sum_congr rfl fun t _ => ?_)
  · rw [eP, eK, Ideal.div_coe hT.ne']
    by_cases h1 : p t
    · rw [if_pos h1]
      by_cases h2 : fst
      · unfold wt; simp [h1, h2]
      · rw [hu h2, ← mul_assoc, mul_comm (vP t)]; unfold wt; simp [h1, h2]
    · unfold wt; simp [h1]
  · rw [eC, eK, Ideal.div_coe hT.ne']
    by_cases h1 : p t
    · unfold wt; simp [h1]
    · rw [if_neg h1, ← mul_assoc, mul_comm (vC t)]; unfold wt; simp [h1]

end

end Cert.Soft
-- ==== Proof.RefDefs.lean ====
/-  The attention reference's result in stages, each a function of the arguments. -/
module

public import proofs.«01_k».proof.Proof.Gen.ReferenceIdeal.Run
public import Idealize.ShloMosaic.PureOps.Ideal.Laws

@[expose] public section

set_option maxRecDepth 16384

noncomputable section

namespace Cert.AttnRef

open Cert.ReferenceIdeal Cert.ReferenceIdeal.Gen Idealize.ShloMosaic Idealize.ShloMosaic.TcCoe Idealize.SL.Sem

variable (q : FVec Ideal S4x4096x64x64 .f32) (k v : FVec Ideal S4x4096x8x64 .f32) (s : FVec Ideal S64 .f32)

/-- The sequence cut into blocks. -/
def blocks : FVec Ideal S4x32x128x8x64 .f32 := shapeCast _ k shapeCasts_S4x4096x8x64_S4x32x128x8x64

/-- The blocks one later, a block of zeros first. -/
def late : FVec Ideal S4x32x128x8x64 .f32 :=
  pad S4x32x128x8x64 ![0, 1, 0, 0, 0] ![0, 0, 0, 0, 0] ![0, 0, 0, 0, 0]
    (extractStridedSlice S4x31x128x8x64 ![0, 0, 0, 0, 0] (blocks k) slices_S4x32x128x8x64_S4x31x128x8x64_0_0_0_0_0)
    (sitofp .f32 (constantI S_ 32 0#32)) pads_S4x31x128x8x64_S4x32x128x8x64_000_100_000_000_000 h_S_

/-- Each block with the block before it in front. -/
def band : FVec Ideal S4x32x256x8x64 .f32 :=
  concatenate S4x32x256x8x64 2 [⟨S4x32x128x8x64, late k⟩, ⟨S4x32x128x8x64, blocks k⟩]
    concatenates_S4x32x128x8x64_S4x32x128x8x64_S4x32x256x8x64_d2

/-- The queries cut into blocks and groups. -/
def groups : FVec Ideal S4x32x128x8x8x64 .f32 := shapeCast _ q shapeCasts_S4x4096x64x64_S4x32x128x8x8x64

def dots : FVec Ideal S4x32x8x256x128x8 .f32 :=
  Host.dotGeneral dot_S4x32x256x8x64_S4x32x128x8x8x64_S4x32x8x256x128x8_4_5_2_24_013_013 none (band k) (groups q)

/-- The scaled scores of a block's queries against its 256 keys. -/
def score : FVec Ideal S4x32x8x8x128x256 .f32 :=
  mulf (transpose S4x32x8x8x128x256 [0, 1, 2, 5, 4, 3] (dots q k) transposes_S4x32x8x256x128x8_S4x32x8x8x128x256_0_1_2_5_4_3)
    (broadcastInDim S4x32x8x8x128x256 ![] bcast_S_S4x32x8x8x128x256 (constant S_ .f32 0x3E000000#32))

/-- How far the key lies behind the query. -/
def behind : IVec S128x256 32 :=
  subi (broadcastInDim S128x256 ![0, 1] bcast_S128x1_S128x256_0_1 (addi (broadcastInDim S128x1 ![] bcast_S_S128x1 (constantI S_ 32 128#32))
      (broadcastInDim S128x1 ![0] bcast_S128_S128x1_0 (iotaInDim S128 32 0))))
    (broadcastInDim S128x256 ![0, 1] bcast_S1x256_S128x256_0_1 (broadcastInDim S1x256 ![1] bcast_S256_S1x256_1 (iotaInDim S256 32 0)))

/-- The key is in the query's window. -/
def near : IVec S128x256 1 :=
  andi (cmpi .sge behind (broadcastInDim S128x256 ![] bcast_S_S128x256 (constantI S_ 32 0#32)))
    (cmpi .slt behind (broadcastInDim S128x256 ![] bcast_S_S128x256 (constantI S_ 32 128#32)))

/-- The key is in the sequence. -/
def inSeq : IVec S32x1x256 1 :=
  cmpi .sge (addi (broadcastInDim S32x1x256 ![0, 1, 2] bcast_S32x1x1_S32x1x256_0_1_2
        (subi (muli (broadcastInDim S32x1x1 ![0] bcast_S32_S32x1x1_0 (iotaInDim S32 32 0)) (broadcastInDim S32x1x1 ![] bcast_S_S32x1x1 (constantI S_ 32 128#32)))
          (broadcastInDim S32x1x1 ![] bcast_S_S32x1x1 (constantI S_ 32 128#32))))
      (broadcastInDim S32x1x256 ![0, 1, 2] bcast_S1x1x256_S32x1x256_0_1_2 (broadcastInDim S1x1x256 ![1, 2] bcast_S1x256_S1x1x256_1_2
        (broadcastInDim S1x256 ![1] bcast_S256_S1x256_1 (iotaInDim S256 32 0)))))
    (broadcastInDim S32x1x256 ![] bcast_S_S32x1x256 (constantI S_ 32 0#32))

def mask : IVec S32x128x256 1 :=
  andi (broadcastInDim S32x128x256 ![0, 1, 2] bcast_S1x128x256_S32x128x256_0_1_2 (broadcastInDim S1x128x256 ![1, 2] bcast_S128x256_S1x128x256_1_2 near))
    (broadcastInDim S32x128x256 ![0, 1, 2] bcast_S32x1x256_S32x128x256_0_1_2 inSeq)

def seen : IVec S4x32x8x8x128x256 1 :=
  broadcastInDim S4x32x8x8x128x256 ![0, 1, 2, 3, 4, 5] bcast_S1x32x1x1x128x256_S4x32x8x8x128x256_0_1_2_3_4_5
    (broadcastInDim S1x32x1x1x128x256 ![1, 4, 5] bcast_S32x128x256_S1x32x1x1x128x256_1_4_5 mask)

/-- The scores, minus infinity off the window. -/
def masked : FVec Ideal S4x32x8x8x128x256 .f32 :=
  select seen (score q k) (broadcastInDim S4x32x8x8x128x256 ![] bcast_S_S4x32x8x8x128x256 (id (constant S_ .f32 0xFF800000#32)))

/-- The sink of each head along its rows. -/
def sinkCol : FVec Ideal S4x32x8x8x128x1 .f32 :=
  broadcastInDim S4x32x8x8x128x1 ![0, 1, 2, 3, 4, 5] bcast_S1x1x8x8x1x1_S4x32x8x8x128x1_0_1_2_3_4_5 (shapeCast _ s shapeCasts_S64_S1x1x8x8x1x1)

/-- A row of scores with its sink behind. -/
def row : FVec Ideal S4x32x8x8x128x257 .f32 :=
  concatenate S4x32x8x8x128x257 5 [⟨S4x32x8x8x128x256, masked q k⟩, ⟨S4x32x8x8x128x1, sinkCol s⟩]
    concatenates_S4x32x8x8x128x256_S4x32x8x8x128x1_S4x32x8x8x128x257_d5

def rowMax : FVec Ideal S4x32x8x8x128 .f32 :=
  maximumf (broadcastInDim S4x32x8x8x128 ![] bcast_S_S4x32x8x8x128 (constant S_ .f32 0xFF800000#32))
    (Host.reduce FloatOps.maximumf (row q k s) (constant S_ .f32 0xFF800000#32) reducesTo_S4x32x8x8x128x257_S4x32x8x8x128_d5 h_S_)

/-- A value of each row, along it. -/
def along (x : FVec Ideal S4x32x8x8x128 .f32) : FVec Ideal S4x32x8x8x128x257 .f32 :=
  broadcastInDim S4x32x8x8x128x257 ![0, 1, 2, 3, 4, 5] bcast_S4x32x8x8x128x1_S4x32x8x8x128x257_0_1_2_3_4_5
    (broadcastInDim S4x32x8x8x128x1 ![0, 1, 2, 3, 4] bcast_S4x32x8x8x128_S4x32x8x8x128x1_0_1_2_3_4 x)

def power : FVec Ideal S4x32x8x8x128x257 .f32 := Host.exp (subf (row q k s) (along (rowMax q k s)))

def total : FVec Ideal S4x32x8x8x128 .f32 :=
  Host.reduceAdd (power q k s) (constant S_ .f32 0x00000000#32) reducesTo_S4x32x8x8x128x257_S4x32x8x8x128_d5 h_S_

/-- The softmax's weights, the sink's left out. -/
def weight : FVec Ideal S4x32x8x8x128x256 .f32 :=
  extractStridedSlice S4x32x8x8x128x256 ![0, 0, 0, 0, 0, 0] (Host.divf (power q k s) (along (total q k s)))
    slices_S4x32x8x8x128x257_S4x32x8x8x128x256_0_0_0_0_0_0

def mixed : FVec Ideal S4x32x8x64x8x128 .f32 :=
  Host.dotGeneral dot_S4x32x256x8x64_S4x32x8x8x128x256_S4x32x8x64x8x128_2_5_4_34_013_012 none (band v) (weight q k s)

def result : FVec Ideal S16384x4096 .bf16 :=
  truncf .bf16 (shapeCast _ (transpose S4x32x128x8x8x64 [0, 1, 5, 2, 4, 3] (mixed q k v s) transposes_S4x32x8x64x8x128_S4x32x128x8x8x64_0_1_5_2_4_3)
    shapeCasts_S4x32x128x8x8x64_S16384x4096) bitsLt_bf16_f32

theorem result_eq (m : (ℓ : Loc nD τ sig) → Buf (Elt Ideal) ℓ) (c : Dev nD) :
    Cert.ReferenceIdeal.Value.res_out0 m c = result (m ((c.tc : Thread nD τ).loc main_arg0)) (m ((c.tc : Thread nD τ).loc main_arg1))
      (m ((c.tc : Thread nD τ).loc main_arg2)) (m ((c.tc : Thread nD τ).loc main_arg3)) := rfl

end Cert.AttnRef
-- ==== Proof.RefAt.lean ====
/-  The attention reference's stages read at an index. -/
module

public import proofs.«01_k».proof.Proof.RefDefs
public import proofs.«01_k».proof.Proof.Consts
public import Idealize.ShloMosaic.Lib.Pointwise
public import Idealize.ShloMosaic.Lib.WordCmp

@[expose] public section

set_option maxRecDepth 16384

noncomputable section

namespace Cert.AttnRef

open Cert.ReferenceIdeal Cert.ReferenceIdeal.Gen Idealize.ShloMosaic Idealize.ShloMosaic.TcCoe Idealize.SL.Sem

variable (q : FVec Ideal S4x4096x64x64 .f32) (k v : FVec Ideal S4x4096x8x64 .f32) (s : FVec Ideal S64 .f32)

/-- The entries of a row's reduction: the row's own along the last axis. -/
theorem fiber (b : Fin 4) (n : Fin 32) (h g : Fin 8) (r : Fin 128) (i : S4x32x8x8x128x257.Idx) :
    reducesTo_S4x32x8x8x128x257_S4x32x8x8x128_d5.drop i = ix5 b n h g r ↔ ∃ t : Fin 257, ix6 b n h g r t = i := by
  constructor
  · intro e
    refine ⟨i 5, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨t, rfl⟩
    funext a; apply Fin.ext
    match a with
    | ⟨0, _⟩ => rfl
    | ⟨1, _⟩ => rfl
    | ⟨2, _⟩ => rfl
    | ⟨3, _⟩ => rfl
    | ⟨4, _⟩ => rfl

/-- The maximum of a row, of any array of rows. -/
theorem fold_at (x : FVec Ideal S4x32x8x8x128x257 .f32) (c : FVec Ideal S_ .f32) (b : Fin 4) (n : Fin 32) (h g : Fin 8) (r : Fin 128) :
    Host.reduce FloatOps.maximumf x c reducesTo_S4x32x8x8x128x257_S4x32x8x8x128_d5 h_S_ (ix5 b n h g r)
      = Finset.univ.fold FloatOps.maximumf (c (Shape.Idx.first h_S_)) fun t : Fin 257 => x (ix6 b n h g r t) :=
  (Host.reduce_eq_fold ..).trans
    (Finset.fold_filter_eq_fold_of_fiber _ _ (fun t : Fin 257 => ix6 b n h g r t) (fun _ _ e => congrFun e 5) (fiber b n h g r) _ _)

theorem max_at (x : FVec Ideal S4x32x8x8x128 .f32) (j : S4x32x8x8x128.Idx) :
    maximumf (broadcastInDim S4x32x8x8x128 ![] bcast_S_S4x32x8x8x128 (constant S_ .f32 0xFF800000#32)) x j = max (Ideal.ofBits .f32 0xFF800000#32) (x j) := rfl

theorem rowMax_at (b : Fin 4) (n : Fin 32) (h g : Fin 8) (r : Fin 128) :
    rowMax q k s (ix5 b n h g r) = max ⊥ (Finset.univ.fold max ⊥ fun t : Fin 257 => row q k s (ix6 b n h g r t)) := by
  unfold rowMax
  generalize row q k s = x
  rw [max_at, fold_at, Consts.neg_inf]
  refine congrArg (max ⊥) (Eq.trans (b := Finset.univ.fold max (Ideal.ofBits .f32 0xFF800000#32) fun t : Fin 257 => x (ix6 b n h g r t)) rfl ?_)
  rw [Consts.neg_inf]

theorem power_at (b : Fin 4) (n : Fin 32) (h g : Fin 8) (r : Fin 128) (t : Fin 257) :
    power q k s (ix6 b n h g r t) = Ideal.exp (row q k s (ix6 b n h g r t) - rowMax q k s (ix5 b n h g r)) := by
  pointwise [power, along]

theorem total_at (b : Fin 4) (n : Fin 32) (h g : Fin 8) (r : Fin 128) :
    total q k s (ix5 b n h g r) = 0 + ∑ t : Fin 257, Ideal.exp (row q k s (ix6 b n h g r t) - rowMax q k s (ix5 b n h g r)) := by
  refine (show _ = Ideal.ofBits .f32 0x00000000#32 + ∑ t : Fin 257, power q k s (ix6 b n h g r t) from congrArg (_ + ·)
    (Finset.sum_filter_eq_sum_of_fiber _ (fun t : Fin 257 => ix6 b n h g r t) (fun _ _ e => congrFun e 5) (fiber b n h g r) _)).trans ?_
  refine congrArg₂ (· + ·) Ideal.ofBits_zero_f32 (Finset.sum_congr rfl fun t _ => power_at q k s b n h g r t)

theorem weight_at (b : Fin 4) (n : Fin 32) (h g : Fin 8) (r : Fin 128) (t : Fin 256) :
    weight q k s (ix6 b n h g r t) = Ideal.div (Ideal.exp (row q k s (ix6 b n h g r ⟨t.val, by omega⟩) - rowMax q k s (ix5 b n h g r))) (total q k s (ix5 b n h g r)) := by
  have e := power_at q k s b n h g r ⟨t.val, by omega⟩
  have f : weight q k s (ix6 b n h g r t) = Ideal.div (power q k s (ix6 b n h g r ⟨t.val, by omega⟩)) (total q k s (ix5 b n h g r)) := by
    unfold weight
    generalize power q k s = P
    generalize total q k s = T
    pointwise [along]
  rw [f, e]

theorem blocks_at (b : Fin 4) (n : Fin 32) (r : Fin 128) (h : Fin 8) (d : Fin 64) : blocks k (ix5 b n r h d) = k (ix4 b ⟨n.val * 128 + r.val, by omega⟩ h d) := by
  pointwise [blocks]

theorem late_at (b : Fin 4) (n : Fin 32) (r : Fin 128) (h : Fin 8) (d : Fin 64) :
    late k (ix5 b n r h d) = if hn : 1 ≤ n.val then k (ix4 b ⟨(n.val - 1) * 128 + r.val, by omega⟩ h d) else 0 := by
  pointwise [late]
  by_cases hn : 1 ≤ n.val
  · rw [dif_pos ⟨hn, by omega⟩, dif_pos hn, blocks_at]
  · rw [dif_neg (fun x => hn x.1), dif_neg hn]
    show (((0#32 : BitVec 32).toInt : ℝ) : EReal) = 0
    simp

theorem band_prev (b : Fin 4) (n : Fin 32) (t : Fin 128) (h : Fin 8) (d : Fin 64) :
    band k (ix5 b n ⟨t.val, by omega⟩ h d) = if hn : 1 ≤ n.val then k (ix4 b ⟨(n.val - 1) * 128 + t.val, by omega⟩ h d) else 0 := by
  refine Eq.trans ?_ (late_at k b n t h d)
  pointwise [band]

theorem band_cur (b : Fin 4) (n : Fin 32) (t : Fin 128) (h : Fin 8) (d : Fin 64) :
    band k (ix5 b n ⟨128 + t.val, by omega⟩ h d) = k (ix4 b ⟨n.val * 128 + t.val, by omega⟩ h d) := by
  refine Eq.trans ?_ (blocks_at k b n t h d)
  pointwise [band]

theorem score_at (b : Fin 4) (n : Fin 32) (h g : Fin 8) (r : Fin 128) (t : Fin 256) :
    score q k (ix6 b n h g r t) = (∑ x : Fin 64, band k (ix5 b n t h x) * q (ix4 b ⟨n.val * 128 + r.val, by omega⟩ ⟨h.val * 8 + g.val, by omega⟩ x))
      * Ideal.ofBits .f32 0x3E000000#32 := by
  pointwise [score, dots, groups]

/-- A small integer is its own balanced remainder. -/
theorem small (x : ℤ) (h1 : -2 ^ 20 ≤ x) (h2 : x ≤ 2 ^ 20) : x.bmod (2 ^ 32) = x := by
  refine Int.bmod_eq_of_le ?_ ?_ <;> norm_num <;> omega

theorem seen_at (b : Fin 4) (n : Fin 32) (h g : Fin 8) (r : Fin 128) (t : Fin 256) :
    seen (ix6 b n h g r t) = BitVec.ofBool (decide (r.val < t.val ∧ t.val ≤ 128 + r.val ∧ (1 ≤ n.val ∨ 128 ≤ t.val))) := by
  pointwise [seen, mask, near, inSeq, behind]
  have hr : (BitVec.ofNat 32 r.val).toInt = r.val := WordCmp.toInt_ofNat_of_lt (by omega)
  have ht : (BitVec.ofNat 32 t.val).toInt = t.val := WordCmp.toInt_ofNat_of_lt (by omega)
  have hn : (BitVec.ofNat 32 n.val).toInt = n.val := WordCmp.toInt_ofNat_of_lt (by omega)
  have hc : (128#32 : BitVec 32).toInt = 128 := rfl
  have e1 : (IntOp.subi (IntOp.addi (128#32) (BitVec.ofNat 32 r.val)) (BitVec.ofNat 32 t.val)).toInt = 128 + (r.val : ℤ) - t.val := by
    have a1 : (IntOp.addi (128#32) (BitVec.ofNat 32 r.val)).toInt = 128 + (r.val : ℤ) := by
      rw [IntOp.addi, BitVec.toInt_add, hr, hc]; exact small _ (by omega) (by omega)
    rw [IntOp.subi, BitVec.toInt_sub, a1, ht]; exact small _ (by omega) (by omega)
  have e2 : (IntOp.addi (IntOp.subi (IntOp.muli (BitVec.ofNat 32 n.val) 128#32) 128#32) (BitVec.ofNat 32 t.val)).toInt = (n.val : ℤ) * 128 - 128 + t.val := by
    have a1 : (IntOp.muli (BitVec.ofNat 32 n.val) 128#32).toInt = (n.val : ℤ) * 128 := by
      rw [IntOp.muli, BitVec.toInt_mul, hn, hc]; exact small _ (by omega) (by omega)
    have a2 : (IntOp.subi (IntOp.muli (BitVec.ofNat 32 n.val) 128#32) 128#32).toInt = (n.val : ℤ) * 128 - 128 := by
      rw [IntOp.subi, BitVec.toInt_sub, a1, hc]; exact small _ (by omega) (by omega)
    rw [IntOp.addi, BitVec.toInt_add, a2, ht]; exact small _ (by omega) (by omega)
  generalize IntOp.subi (IntOp.addi (128#32) (BitVec.ofNat 32 r.val)) (BitVec.ofNat 32 t.val) = w1 at e1 ⊢
  generalize IntOp.addi (IntOp.subi (IntOp.muli (BitVec.ofNat 32 n.val) 128#32) 128#32) (BitVec.ofNat 32 t.val) = w2 at e2 ⊢
  have f1 : IntOp.cmpi .sge w1 0#32 = BitVec.ofBool (decide (t.val ≤ 128 + r.val)) := by
    simp only [IntOp.cmpi, BitVec.sle, e1, BitVec.toInt_ofNat]
    congr 1; simp only [decide_eq_decide]; simp [Int.bmod]; omega
  have f2 : IntOp.cmpi .slt w1 128#32 = BitVec.ofBool (decide (r.val < t.val)) := by
    simp only [IntOp.cmpi, BitVec.slt, e1, BitVec.toInt_ofNat]
    congr 1; simp only [decide_eq_decide]; simp [Int.bmod]; omega
  have f3 : IntOp.cmpi .sge w2 0#32 = BitVec.ofBool (decide (1 ≤ n.val ∨ 128 ≤ t.val)) := by
    simp only [IntOp.cmpi, BitVec.sle, e2, BitVec.toInt_ofNat]
    congr 1; simp only [decide_eq_decide]; simp [Int.bmod]; omega
  rw [f1, f2, f3]
  by_cases h1 : r.val < t.val <;> by_cases h2 : t.val ≤ 128 + r.val <;> by_cases h3 : 1 ≤ n.val ∨ 128 ≤ t.val <;>
    simp only [h1, h2, h3, and_true, and_false, false_and, true_and, decide_true, decide_false] <;> rfl

theorem row_band (b : Fin 4) (n : Fin 32) (h g : Fin 8) (r : Fin 128) (t : Fin 256) :
    row q k s (ix6 b n h g r ⟨t.val, by omega⟩)
      = if r.val < t.val ∧ t.val ≤ 128 + r.val ∧ (1 ≤ n.val ∨ 128 ≤ t.val) then score q k (ix6 b n h g r t) else ⊥ := by
  have e : row q k s (ix6 b n h g r ⟨t.val, by omega⟩) = Scalar.select (seen (ix6 b n h g r t)) (score q k (ix6 b n h g r t)) (Ideal.ofBits .f32 0xFF800000#32) := by
    pointwise [row, masked, sinkCol]
    rfl
  rw [e, seen_at, Consts.neg_inf]
  by_cases hc : r.val < t.val ∧ t.val ≤ 128 + r.val ∧ (1 ≤ n.val ∨ 128 ≤ t.val)
  · rw [if_pos hc, decide_eq_true hc]; rfl
  · rw [if_neg hc, decide_eq_false hc]; rfl

theorem row_sink (b : Fin 4) (n : Fin 32) (h g : Fin 8) (r : Fin 128) :
    row q k s (ix6 b n h g r ⟨256, by omega⟩) = s (ix1 ⟨h.val * 8 + g.val, by omega⟩) := by
  pointwise [row, masked, sinkCol]

theorem row_prev (b : Fin 4) (n : Fin 32) (h g : Fin 8) (r t : Fin 128) :
    row q k s (ix6 b n h g r ⟨t.val, by omega⟩) = if r.val < t.val ∧ ¬n.val = 0 then
      (∑ x : Fin 64, k (ix4 b ⟨(n.val - 1) * 128 + t.val, by omega⟩ h x) * q (ix4 b ⟨n.val * 128 + r.val, by omega⟩ ⟨h.val * 8 + g.val, by omega⟩ x))
        * Ideal.ofBits .f32 0x3E000000#32 else ⊥ := by
  refine (row_band q k s b n h g r ⟨t.val, by omega⟩).trans ?_
  by_cases hc : r.val < t.val ∧ ¬n.val = 0
  · rw [if_pos hc, if_pos ⟨hc.1, by show t.val ≤ _; omega, .inl (by omega)⟩, score_at]
    refine congrArg (· * _) (Finset.sum_congr rfl fun x _ => congrArg (· * _) ?_)
    refine (band_prev k b n t h x).trans (dif_pos (by omega))
  · rw [if_neg hc, if_neg]
    rintro ⟨a1, -, a3⟩
    simp only at a1 a3
    omega

theorem row_cur (b : Fin 4) (n : Fin 32) (h g : Fin 8) (r t : Fin 128) :
    row q k s (ix6 b n h g r ⟨128 + t.val, by omega⟩) = if ¬r.val < t.val then
      (∑ x : Fin 64, k (ix4 b ⟨n.val * 128 + t.val, by omega⟩ h x) * q (ix4 b ⟨n.val * 128 + r.val, by omega⟩ ⟨h.val * 8 + g.val, by omega⟩ x))
        * Ideal.ofBits .f32 0x3E000000#32 else ⊥ := by
  refine (row_band q k s b n h g r ⟨128 + t.val, by omega⟩).trans ?_
  by_cases hc : ¬r.val < t.val
  · rw [if_pos hc, if_pos ⟨by show r.val < 128 + t.val; omega, by show 128 + t.val ≤ _; omega, .inr (by show 128 ≤ 128 + t.val; omega)⟩, score_at]
    exact congrArg (· * _) (Finset.sum_congr rfl fun x _ => congrArg (· * _) (band_cur k b n t h x))
  · rw [if_neg hc, if_neg]
    rintro ⟨-, a2, -⟩
    simp only at a2
    omega

/-- The result at a batch entry, block, head, row and lane: the two blocks' values under their weights. -/
theorem result_at (i : Fin 16384) (j : Fin 4096) (b : Fin 4) (n : Fin 32) (h g : Fin 8) (r : Fin 128) (d : Fin 64)
    (hi : i.val = b.val * 4096 + n.val * 128 + r.val) (hj : j.val = h.val * 512 + g.val * 64 + d.val) : result q k v s (ix2 i j)
      = (∑ t : Fin 128, (if hn : 1 ≤ n.val then v (ix4 b ⟨(n.val - 1) * 128 + t.val, by omega⟩ h d) else 0)
          * Ideal.div (Ideal.exp (row q k s (ix6 b n h g r ⟨t.val, by omega⟩) - rowMax q k s (ix5 b n h g r))) (total q k s (ix5 b n h g r)))
        + ∑ t : Fin 128, v (ix4 b ⟨n.val * 128 + t.val, by omega⟩ h d)
          * Ideal.div (Ideal.exp (row q k s (ix6 b n h g r ⟨128 + t.val, by omega⟩) - rowMax q k s (ix5 b n h g r))) (total q k s (ix5 b n h g r)) := by
  have e : result q k v s (ix2 i j) = ∑ x : Fin 256, band v (ix5 b n x h d) * weight q k s (ix6 b n h g r x) := by
    pointwise [result, mixed]
    refine Finset.sum_congr rfl fun x _ => congrArg₂ (· * ·) (congrArg _ ?_) (congrArg _ ?_)
    · congr 1 <;> apply Fin.ext <;> simp only <;> omega
    · congr 1 <;> apply Fin.ext <;> simp only <;> omega
  rw [e, Fin.sum_univ_two_halves 128 128 rfl]
  refine congrArg₂ (· + ·) (Finset.sum_congr rfl fun t _ => congrArg₂ (· * ·) (band_prev v b n t h d) (weight_at q k s b n h g r ⟨t.val, by omega⟩))
    (Finset.sum_congr rfl fun t _ => congrArg₂ (· * ·) (band_cur v b n t h d) (weight_at q k s b n h g r ⟨128 + t.val, by omega⟩))

end Cert.AttnRef
-- ==== Proof.Match.lean ====
/-  The attention call's result is the reference's, over real queries, keys and sinks. -/
module

public import proofs.«01_k».proof.Proof.Join
public import proofs.«01_k».proof.Proof.Soft
public import proofs.«01_k».proof.Proof.RefAt

@[expose] public section

set_option maxRecDepth 16384

noncomputable section

namespace Cert.Attn

open Cert.KernelIdeal Cert.KernelIdeal.Gen Idealize.ShloMosaic

theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A score from scaled queries is the reference's score times the reciprocal of log 2. -/
theorem dot_real {a b : Fin 64 → EReal} {A B : Fin 64 → ℝ} (ha : ∀ x, a x = A x) (hb : ∀ x, b x = B x) :
    ∑ x, a x * qs * b x = (((Real.log 2)⁻¹ * ((∑ x, B x * A x) * (1 / 8)) : ℝ) : EReal) := by
  simp only [ha, hb, qs, ← EReal.coe_mul, ← coe_sum]
  congr 1
  rw [Finset.sum_mul, Finset.mul_sum]
  exact Finset.sum_congr rfl fun x _ => by ring

theorem dot_plain {a b : Fin 64 → EReal} {A B : Fin 64 → ℝ} (ha : ∀ x, a x = A x) (hb : ∀ x, b x = B x) :
    (∑ x, b x * a x) * Ideal.ofBits .f32 0x3E000000#32 = (((∑ x, B x * A x) * (1 / 8) : ℝ) : EReal) := by
  rw [Consts.eighth]
  simp only [ha, hb, ← EReal.coe_mul, ← coe_sum]

variable (q : FVec Ideal S4x4096x64x64 .f32) (k v : FVec Ideal S4x4096x8x64 .f32) (s : FVec Ideal S64 .f32)

theorem q_of {i : Fin 16384} {l : Fin 5120} (b : Fin 4) (p : Fin 4096) (h x : Fin 64) (hi : i.val = b.val * 4096 + p.val) (hl : l.val = h.val * 64 + x.val) :
    join q k v (ix2 i l) = q (ix4 b p h x) := by
  rw [show i = ⟨b.val * 4096 + p.val, by omega⟩ from Fin.ext hi, show l = ⟨h.val * 64 + x.val, by omega⟩ from Fin.ext hl]
  exact join_q q k v b p h x

theorem k_of {i : Fin 16384} {l : Fin 5120} (b : Fin 4) (p : Fin 4096) (h : Fin 8) (x : Fin 64) (hi : i.val = b.val * 4096 + p.val)
    (hl : l.val = 4096 + (h.val * 64 + x.val)) : join q k v (ix2 i l) = k (ix4 b p h x) := by
  rw [show i = ⟨b.val * 4096 + p.val, by omega⟩ from Fin.ext hi, show l = ⟨4096 + (h.val * 64 + x.val), by omega⟩ from Fin.ext hl]
  exact join_k q k v b p h x

theorem v_of {i : Fin 16384} {l : Fin 5120} (b : Fin 4) (p : Fin 4096) (h : Fin 8) (x : Fin 64) (hi : i.val = b.val * 4096 + p.val)
    (hl : l.val = 4608 + (h.val * 64 + x.val)) : join q k v (ix2 i l) = v (ix4 b p h x) := by
  rw [show i = ⟨b.val * 4096 + p.val, by omega⟩ from Fin.ext hi, show l = ⟨4608 + (h.val * 64 + x.val), by omega⟩ from Fin.ext hl]
  exact join_v q k v b p h x

/-- The result at a row and column, over the joined array, from queries, keys and values at their places. -/
theorem outAt_join (i : Fin 16384) (c : Fin 4096) (b : Fin 4) (n : Fin 32) (h g : Fin 8) (r : Fin 128) (d : Fin 64)
    (hi : i.val = b.val * 4096 + n.val * 128 + r.val) (hc : c.val = h.val * 512 + g.val * 64 + d.val) :
    outAt (join q k v) s i c = headOut r (if 0 < n.val then 0 else ⊥)
      (fun x => q (ix4 b ⟨n.val * 128 + r.val, by omega⟩ ⟨h.val * 8 + g.val, by omega⟩ x) * qs)
      (fun t x => k (ix4 b ⟨(if n.val = 0 then n.val else n.val - 1) * 128 + t.val, by split <;> omega⟩ h x))
      (fun t x => k (ix4 b ⟨n.val * 128 + t.val, by omega⟩ h x))
      (fun t => v (ix4 b ⟨(if n.val = 0 then n.val else n.val - 1) * 128 + t.val, by split <;> omega⟩ h d))
      (fun t => v (ix4 b ⟨n.val * 128 + t.val, by omega⟩ h d)) (s (ix1 ⟨h.val * 8 + g.val, by omega⟩)) := by
  have e1 : i.val / 128 % 32 = n.val := by omega
  have e2 : i.val / 128 = b.val * 32 + n.val := by omega
  have e3 : c.val / 512 = h.val := by omega
  unfold outAt
  simp only [e1]
  have hr : (⟨i.val % 128, by omega⟩ : Fin 128) = r := Fin.ext (by simp only; omega)
  rw [hr]
  have hs : (⟨c.val / 64, by omega⟩ : Fin 64) = ⟨h.val * 8 + g.val, by omega⟩ := Fin.ext (by simp only; omega)
  rw [hs]
  congr 1
  · funext x
    exact congrArg (· * qs) (q_of q k v _ _ _ _ (by simp only; omega) (by simp only; omega))
  · funext t x
    refine k_of q k v _ _ _ _ ?_ (by simp only; omega)
    simp only; split <;> omega
  · funext t x
    exact k_of q k v _ _ _ _ (by simp only; omega) (by simp only; omega)
  · funext t
    refine v_of q k v _ _ _ _ ?_ (by simp only; omega)
    simp only; split <;> omega
  · funext t
    exact v_of q k v _ _ _ _ (by simp only; omega) (by simp only; omega)

/-- The call's result at a row and column is the reference's. -/
theorem outAt_eq (hq : ∀ i, ∃ y : ℝ, q i = (y : EReal)) (hk : ∀ i, ∃ y : ℝ, k i = (y : EReal)) (hs : ∀ i, ∃ y : ℝ, s i = (y : EReal))
    (i : Fin 16384) (c : Fin 4096) : outAt (join q k v) s i c = AttnRef.result q k v s (ix2 i c) := by
  choose Q hQ using hq
  choose K hK using hk
  choose S hS using hs
  obtain ⟨b, hb⟩ : ∃ b : Fin 4, b.val = i.val / 4096 := ⟨⟨i.val / 4096, by omega⟩, rfl⟩
  obtain ⟨n, hn⟩ : ∃ n : Fin 32, n.val = i.val / 128 % 32 := ⟨⟨i.val / 128 % 32, by omega⟩, rfl⟩
  obtain ⟨r, hr⟩ : ∃ r : Fin 128, r.val = i.val % 128 := ⟨⟨i.val % 128, by omega⟩, rfl⟩
  obtain ⟨h, hh⟩ : ∃ h : Fin 8, h.val = c.val / 512 := ⟨⟨c.val / 512, by omega⟩, rfl⟩
  obtain ⟨g, hg⟩ : ∃ g : Fin 8, g.val = c.val / 64 % 8 := ⟨⟨c.val / 64 % 8, by omega⟩, rfl⟩
  obtain ⟨d, hd⟩ : ∃ d : Fin 64, d.val = c.val % 64 := ⟨⟨c.val % 64, by omega⟩, rfl⟩
  have hi : i.val = b.val * 4096 + n.val * 128 + r.val := by omega
  have hc : c.val = h.val * 512 + g.val * 64 + d.val := by omega
  rw [outAt_join q k v s i c b n h g r d hi hc, AttnRef.result_at q k v s i c b n h g r d hi hc]
  have hp : n.val ≠ 0 → (if n.val = 0 then n.val else n.val - 1) = n.val - 1 := fun h0 => if_neg h0
  let Qr : Fin 64 → ℝ := fun x => Q (ix4 b ⟨n.val * 128 + r.val, by omega⟩ ⟨h.val * 8 + g.val, by omega⟩ x)
  let KP : Fin 128 → Fin 64 → ℝ := fun t x => K (ix4 b ⟨(if n.val = 0 then n.val else n.val - 1) * 128 + t.val, by split <;> omega⟩ h x)
  let KC : Fin 128 → Fin 64 → ℝ := fun t x => K (ix4 b ⟨n.val * 128 + t.val, by omega⟩ h x)
  have hrow : Soft.IsRow (fun t : Fin 128 => r.val < t.val) (n.val = 0) (fun t => (∑ x, KP t x * Qr x) * (1 / 8)) (fun t => (∑ x, KC t x * Qr x) * (1 / 8))
      (S (ix1 ⟨h.val * 8 + g.val, by omega⟩)) (fun t => AttnRef.row q k s (ix6 b n h g r t)) := by
    refine ⟨fun t => (AttnRef.row_prev q k s b n h g r t).trans ?_, fun t => (AttnRef.row_cur q k s b n h g r t).trans ?_,
      (AttnRef.row_sink q k s b n h g r).trans (hS _)⟩
    · by_cases hc : r.val < t.val ∧ ¬n.val = 0
      · rw [if_pos hc, if_pos hc]
        have e : (⟨(n.val - 1) * 128 + t.val, by omega⟩ : Fin 4096) = ⟨(if n.val = 0 then n.val else n.val - 1) * 128 + t.val, by split <;> omega⟩ :=
          Fin.ext (by simp only [if_neg hc.2])
        rw [e]
        exact dot_plain (fun x => hQ _) fun x => hK _
      · rw [if_neg hc, if_neg hc]
    · exact if_congr Iff.rfl (dot_plain (fun x => hQ _) fun x => hK _) rfl
  have hz : ∀ t : Fin 128, Soft.scaled (fun t : Fin 128 => r.val < t.val) (n.val = 0) (fun t => (∑ x, KP t x * Qr x) * (1 / 8)) (fun t => (∑ x, KC t x * Qr x) * (1 / 8)) t
      = if r.val < t.val then (∑ x : Fin 64, q (ix4 b ⟨n.val * 128 + r.val, by omega⟩ ⟨h.val * 8 + g.val, by omega⟩ x) * qs
            * k (ix4 b ⟨(if n.val = 0 then n.val else n.val - 1) * 128 + t.val, by split <;> omega⟩ h x)) + (if 0 < n.val then 0 else ⊥)
        else ∑ x : Fin 64, q (ix4 b ⟨n.val * 128 + r.val, by omega⟩ ⟨h.val * 8 + g.val, by omega⟩ x) * qs * k (ix4 b ⟨n.val * 128 + t.val, by omega⟩ h x) := fun t => by
    refine if_congr Iff.rfl ?_ (dot_real (fun x => hQ _) fun x => hK _).symm
    refine congrArg₂ (· + ·) (dot_real (fun x => hQ _) fun x => hK _).symm ?_
    by_cases h0 : n.val = 0
    · rw [if_pos h0, if_neg (by omega)]
    · rw [if_neg h0, if_pos (by omega)]
  have hsnk : s (ix1 ⟨h.val * 8 + g.val, by omega⟩) * L = (((Real.log 2)⁻¹ * S (ix1 ⟨h.val * 8 + g.val, by omega⟩) : ℝ) : EReal) := by
    rw [hS, L, ← EReal.coe_mul, mul_comm]
  unfold headOut
  simp only [← hz, hsnk]
  refine (hrow.soft _ (fun t => v (ix4 b ⟨(if n.val = 0 then n.val else n.val - 1) * 128 + t.val, by split <;> omega⟩ h d))
    (fun t => v (ix4 b ⟨n.val * 128 + t.val, by omega⟩ h d)) (fun h0 => funext fun t => ?_)
    (AttnRef.rowMax_at q k s b n h g r) (AttnRef.total_at q k s b n h g r) rfl).symm
  rw [dif_pos (by omega)]
  exact congrArg (fun p => v (ix4 b p h d)) (Fin.ext (by simp only [if_neg h0]))

/-- The array the call leaves is the reference's result. -/
theorem value (m : (ℓ : Loc nD τ sig) → Buf (Elt Ideal) ℓ) (c : Dev nD)
    (hq : ∀ i : S4x4096x64x64.Idx, ∃ y : ℝ, (m ((c.tc : Thread nD τ).loc main_arg0) : FVec Ideal S4x4096x64x64 .f32) i = (y : EReal))
    (hk : ∀ i : S4x4096x8x64.Idx, ∃ y : ℝ, (m ((c.tc : Thread nD τ).loc main_arg1) : FVec Ideal S4x4096x8x64 .f32) i = (y : EReal))
    (hs : ∀ i : S64.Idx, ∃ y : ℝ, (m ((c.tc : Thread nD τ).loc main_arg3) : FVec Ideal S64 .f32) i = (y : EReal)) :
    (dats m 0 c).arrAt 6 cfg0.N = AttnRef.result (m ((c.tc : Thread nD τ).loc main_arg0)) (m ((c.tc : Thread nD τ).loc main_arg1))
      (m ((c.tc : Thread nD τ).loc main_arg2)) (m ((c.tc : Thread nD τ).loc main_arg3)) := by
  rw [final, joined_eq]
  funext i
  refine (outAt_eq _ _ _ _ hq hk hs (i 0) (i 1)).trans (congrArg (AttnRef.result _ _ _ _) ?_)
  funext a
  fin_cases a <;> rfl

end Cert.Attn
-- ==== Proof.Finite.lean ====
/-  What the precondition says: queries, keys and sinks are real numbers. -/
module

public import proofs.«01_k».proof.Pre_finite_scores
public import proofs.«01_k».proof.Proof.Consts
public import Idealize.ShloMosaic.Lib.ReduceAll
public import Idealize.ShloMosaic.Lib.Affine

@[expose] public section

noncomputable section

namespace Cert.Finite

open Cert.Pre_finite_scores Idealize.ShloMosaic

theorem real_of_below {x : EReal} (h : Ideal.cmp .olt (max x (-x)) (Ideal.ofBits .f32 0x7F800000#32) = 1#1) : ∃ y : ℝ, x = y := by
  rw [Consts.pos_inf] at h
  induction x with
  | coe y => exact ⟨y, rfl⟩
  | bot => simp [Ideal.cmp] at h
  | top => simp [Ideal.cmp] at h

instance : Subsingleton S_.Idx := ⟨fun a b => funext fun i => i.elim0⟩

theorem reals [Facts] {q : FVec Ideal S4x4096x64x64 .f32} {k v : FVec Ideal S4x4096x8x64 .f32} {s : FVec Ideal S64 .f32}
    (h : fn (F := Ideal) q k v s = fun _ => 1#1) :
    (∀ i, ∃ y : ℝ, q i = (y : EReal)) ∧ (∀ i, ∃ y : ℝ, k i = (y : EReal)) ∧ ∀ i, ∃ y : ℝ, s i = (y : EReal) := by
  have h0 := congrFun h (Shape.Idx.first Facts.h_S_)
  simp only [fn] at h0
  obtain ⟨h1, h3⟩ := IntOp.andi_eq_one.1 h0
  obtain ⟨h1, h2⟩ := IntOp.andi_eq_one.1 h1
  exact ⟨fun i => real_of_below (Host.reduce_andi_all _ _ _ _ _ h1 i), fun i => real_of_below (Host.reduce_andi_all _ _ _ _ _ h2 i),
    fun i => real_of_below (Host.reduce_andi_all _ _ _ _ _ h3 i)⟩

end Cert.Finite
-- ==== Proof.DownValue.lean ====
/-  The down projection: the tiles the grid writes are those of the whole product. -/
module

public import proofs.«01_k».proof.Proof.Gen.DownIdeal.Value
public import proofs.«01_k».proof.Proof.Gen.DownReferenceIdeal.Run
public import Idealize.ShloMosaic.Lib.Pipeline.ValueKit
public import Idealize.ShloMosaic.Lib.Pointwise

@[expose] public section

set_option maxRecDepth 16384

noncomputable section

namespace Cert.DownProduct

open Cert.DownIdeal Cert.DownIdeal.Gen Idealize.ShloMosaic Idealize.ShloMosaic.TcCoe Idealize.SL.Sem
open Idealize.ShloMosaic.Pipeline (Dat)

/-- The product the reference forms, rounded once. -/
abbrev product (a : FVec Ideal S16384x11008 .f32) (w : FVec Ideal S11008x4096 .f32) : FVec Ideal S16384x4096 .bf16 :=
  truncf .bf16 (Host.dotGeneral Cert.DownReferenceIdeal.dot_S16384x11008_S11008x4096_S16384x4096_1_0_0_1_n_n none a w : FVec Ideal S16384x4096 .f32) Cert.DownReferenceIdeal.Gen.bitsLt_bf16_f32

/-- Where the grid's point finds its rows, its columns and its tile. -/
theorem places : ∀ t : Fin cfg0.N, win0_0.index t = ![(grid0.coords t 0).val, 0] ∧ win0_1.index t = ![0, 0, (grid0.coords t 1).val]
    ∧ win0_2.index t = ![(grid0.coords t 0).val, (grid0.coords t 1).val] :=
  (by decide +kernel : ∀ t : Fin grid0.N, _)

variable (m : (ℓ : Loc nD τ sig) → Buf (Elt Ideal) ℓ) (c : Dev nD)

/-- One tile, entry by entry. -/
theorem tile (t : Fin cfg0.N) (y : S512x512.Idx) : k0_pay1 (F := Ideal) (iblk m c 0 t) (iblk m c 1 t) y
    = product (m ((c : Thread nD τ).loc main_arg0)) (m ((c : Thread nD τ).loc main_arg1)) (((cfg0.win 2).blk t).view.emb y) := by
  pointwise [k0_pay1, product]
  blk_point [iblk, V, places t]

/-- The whole array the grid leaves. -/
theorem whole : (dats m 0 c).arrAt 2 cfg0.N = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact tile m c t y

end Cert.DownProduct
-- ==== Proof.GluValue.lean ====
/-  The gated linear unit of the mixer, as the grid writes it. -/
module

public import proofs.«01_k».proof.Proof.Gen.GluIdeal.Value
public import proofs.«01_k».proof.Proof.Gen.GluReferenceIdeal.Run
public import Idealize.ShloMosaic.Lib.Pipeline.ValueKit
public import Idealize.ShloMosaic.Lib.Pointwise

@[expose] public section

set_option maxRecDepth 16384

noncomputable section

namespace Cert.Glu1

open Cert.GluIdeal Cert.GluIdeal.Gen Idealize.ShloMosaic Idealize.ShloMosaic.TcCoe Idealize.SL.Sem
open Idealize.ShloMosaic.Pipeline (Dat)

/-- One of the two products with its bias, as the reference forms it. -/
abbrev biased (g : FVec Ideal S16384x4096 .f32) (w : FVec Ideal S1x4096x4096 .f32) (b : FVec Ideal S1x4096 .f32) : FVec Ideal S16384x4096 .f32 :=
  addf (Host.dotGeneral Cert.GluReferenceIdeal.dot_S16384x4096_S4096x4096_S16384x4096_1_0_0_1_n_n none g
      (shapeCast _ w Cert.GluReferenceIdeal.Gen.shapeCasts_S1x4096x4096_S4096x4096) : FVec Ideal S16384x4096 .f32)
    (broadcastInDim Cert.GluReferenceIdeal.S16384x4096 ![0, 1] Cert.GluReferenceIdeal.Gen.bcast_S1x4096_S16384x4096_0_1
      (broadcastInDim Cert.GluReferenceIdeal.S1x4096 ![1] Cert.GluReferenceIdeal.Gen.bcast_S4096_S1x4096_1
        (shapeCast _ b Cert.GluReferenceIdeal.Gen.shapeCasts_S1x4096_S4096)))

/-- One, everywhere. -/
abbrev ones : FVec Ideal S16384x4096 .f32 :=
  broadcastInDim Cert.GluReferenceIdeal.S16384x4096 ![] Cert.GluReferenceIdeal.Gen.bcast_S_S16384x4096 (constant Cert.GluReferenceIdeal.S_ .f32 0x3F800000#32)

/-- The first product times the sigmoid of the second. -/
abbrev unit (g : FVec Ideal S16384x4096 .f32) (w : FVec Ideal S1x4096x4096 .f32) (b : FVec Ideal S1x4096 .f32)
    (w' : FVec Ideal S1x4096x4096 .f32) (b' : FVec Ideal S1x4096 .f32) : FVec Ideal S16384x4096 .bf16 :=
  truncf .bf16 (mulf (biased g w b) (Host.divf ones (addf ones (Host.exp (Host.negf (biased g w' b')))))) Cert.GluReferenceIdeal.Gen.bitsLt_bf16_f32

/-- Where the grid's point finds its rows, its columns and biases, and its tile. -/
theorem places : ∀ t : Fin cfg0.N, win0_0.index t = ![(grid0.coords t 0).val, 0] ∧ win0_1.index t = ![0, 0, (grid0.coords t 1).val]
    ∧ win0_2.index t = ![0, 0, (grid0.coords t 1).val] ∧ win0_3.index t = ![0, 0, (grid0.coords t 1).val]
    ∧ win0_4.index t = ![0, 0, (grid0.coords t 1).val] ∧ win0_5.index t = ![(grid0.coords t 0).val, (grid0.coords t 1).val] :=
  (by decide +kernel : ∀ t : Fin grid0.N, _)

variable (m : (ℓ : Loc nD τ sig) → Buf (Elt Ideal) ℓ) (c : Dev nD)

/-- One tile, entry by entry. -/
theorem tile (t : Fin cfg0.N) (y : S1024x512.Idx) : k0_pay1 (F := Ideal) (iblk m c 0 t) (iblk m c 1 t) (iblk m c 2 t) (iblk m c 3 t) (iblk m c 4 t) y
    = unit (m ((c : Thread nD τ).loc main_arg0)) (m ((c : Thread nD τ).loc main_arg1)) (m ((c : Thread nD τ).loc main_arg2))
      (m ((c : Thread nD τ).loc main_arg3)) (m ((c : Thread nD τ).loc main_arg4)) (((cfg0.win 5).blk t).view.emb y) := by
  pointwise [k0_pay1, unit, biased, ones]
  simp only [Ideal.logistic]
  blk_point [iblk, V, places t]

/-- The whole array the grid leaves. -/
theorem whole : (dats m 0 c).arrAt 5 cfg0.N
    = unit (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t _ y => ?_
  blk_simp
  rw [after0_5]; frame_out
  exact tile m c t y

end Cert.Glu1
-- ==== Proof.OutValue.lean ====
/-  The output projection: the tiles the grid writes are those of the whole product with its bias. -/
module

public import proofs.«01_k».proof.Proof.Gen.OutIdeal.Value
public import proofs.«01_k».proof.Proof.Gen.OutReferenceIdeal.Run
public import Idealize.ShloMosaic.Lib.Pipeline.ValueKit
public import Idealize.ShloMosaic.Lib.Pointwise

@[expose] public section

set_option maxRecDepth 16384

noncomputable section

namespace Cert.OutProduct

open Cert.OutIdeal Cert.OutIdeal.Gen Idealize.ShloMosaic Idealize.ShloMosaic.TcCoe Idealize.SL.Sem
open Idealize.ShloMosaic.Pipeline (Dat)

/-- The product with its bias, as the reference forms it. -/
abbrev biased (a : FVec Ideal S16384x4096 .f32) (w : FVec Ideal S1x4096x4096 .f32) (b : FVec Ideal S1x4096 .f32) : FVec Ideal S16384x4096 .bf16 :=
  truncf .bf16 (addf (Host.dotGeneral Cert.OutReferenceIdeal.dot_S16384x4096_S4096x4096_S16384x4096_1_0_0_1_n_n none a
      (shapeCast _ w Cert.OutReferenceIdeal.Gen.shapeCasts_S1x4096x4096_S4096x4096) : FVec Ideal S16384x4096 .f32)
    (broadcastInDim Cert.OutReferenceIdeal.S16384x4096 ![0, 1] Cert.OutReferenceIdeal.Gen.bcast_S1x4096_S16384x4096_0_1
      (broadcastInDim Cert.OutReferenceIdeal.S1x4096 ![1] Cert.OutReferenceIdeal.Gen.bcast_S4096_S1x4096_1
        (shapeCast _ b Cert.OutReferenceIdeal.Gen.shapeCasts_S1x4096_S4096)))) Cert.OutReferenceIdeal.Gen.bitsLt_bf16_f32

/-- Where the grid's point finds its rows, columns, biases and its tile. -/
theorem places : ∀ t : Fin cfg0.N, win0_0.index t = ![(grid0.coords t 0).val, 0] ∧ win0_1.index t = ![0, 0, (grid0.coords t 1).val]
    ∧ win0_2.index t = ![0, 0, (grid0.coords t 1).val] ∧ win0_3.index t = ![(grid0.coords t 0).val, (grid0.coords t 1).val] :=
  (by decide +kernel : ∀ t : Fin grid0.N, _)

variable (m : (ℓ : Loc nD τ sig) → Buf (Elt Ideal) ℓ) (c : Dev nD)

/-- One tile, entry by entry. -/
theorem tile (t : Fin cfg0.N) (y : S1024x1024.Idx) : k0_pay1 (F := Ideal) (iblk m c 0 t) (iblk m c 1 t) (iblk m c 2 t) y
    = biased (m ((c : Thread nD τ).loc main_arg0)) (m ((c : Thread nD τ).loc main_arg1)) (m ((c : Thread nD τ).loc main_arg2)) (((cfg0.win 3).blk t).view.emb y) := by
  pointwise [k0_pay1, biased]
  blk_point [iblk, V, places t]

/-- The whole array the grid leaves. -/
theorem whole : (dats m 0 c).arrAt 3 cfg0.N
    = biased (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact tile m c t y

end Cert.OutProduct
-- ==== Proof.UpValue.lean ====
/-  The gated product of the feed-forward network and the cast of its last matrix, as the grid writes them. -/
module

public import proofs.«01_k».proof.Proof.Gen.UpIdeal.Value
public import proofs.«01_k».proof.Proof.Gen.UpReferenceIdeal.Run
public import Idealize.ShloMosaic.Lib.Pipeline.ValueKit
public import Idealize.ShloMosaic.Lib.Pointwise

@[expose] public section

set_option maxRecDepth 16384

noncomputable section

namespace Cert.Gated

open Cert.UpIdeal Cert.UpIdeal.Gen Idealize.ShloMosaic Idealize.ShloMosaic.TcCoe Idealize.SL.Sem
open Idealize.ShloMosaic.Pipeline (Dat)

/-- One of the two products, with the second layer's matrix. -/
abbrev layer (h : FVec Ideal S16384x4096 .f32) (w : FVec Ideal S2x4096x11008 .f32) : FVec Ideal S16384x11008 .f32 :=
  Host.dotGeneral Cert.UpReferenceIdeal.dot_S16384x4096_S4096x11008_S16384x11008_1_0_0_1_n_n none h
    (shapeCast _ (extractStridedSlice Cert.UpReferenceIdeal.S1x4096x11008 ![1, 0, 0] w Cert.UpReferenceIdeal.Gen.slices_S2x4096x11008_S1x4096x11008_1_0_0)
      Cert.UpReferenceIdeal.Gen.shapeCasts_S1x4096x11008_S4096x11008)

/-- One, everywhere. -/
abbrev ones : FVec Ideal S16384x11008 .f32 :=
  broadcastInDim Cert.UpReferenceIdeal.S16384x11008 ![] Cert.UpReferenceIdeal.Gen.bcast_S_S16384x11008 (constant Cert.UpReferenceIdeal.S_ .f32 0x3F800000#32)

/-- The gate's product through the sigmoid-weighted unit, times the other product. -/
abbrev gated (h : FVec Ideal S16384x4096 .f32) (g u : FVec Ideal S2x4096x11008 .f32) : FVec Ideal S16384x11008 .bf16 :=
  truncf .bf16 (mulf (mulf (layer h g) (Host.divf ones (addf ones (Host.exp (Host.negf (layer h g)))))) (layer h u)) Cert.UpReferenceIdeal.Gen.bitsLt_bf16_f32

/-- The last matrix of the second layer, cut into the grid's slabs. -/
abbrev slabs (w : FVec Ideal S2x11008x4096 .f32) : FVec Ideal S344x32x4096 .bf16 :=
  truncf .bf16 (shapeCast Cert.UpReferenceIdeal.S344x32x4096 (shapeCast _ (extractStridedSlice Cert.UpReferenceIdeal.S1x11008x4096 ![1, 0, 0] w Cert.UpReferenceIdeal.Gen.slices_S2x11008x4096_S1x11008x4096_1_0_0)
    Cert.UpReferenceIdeal.Gen.shapeCasts_S1x11008x4096_S11008x4096) Cert.UpReferenceIdeal.Gen.shapeCasts_S11008x4096_S344x32x4096) Cert.UpReferenceIdeal.Gen.bitsLt_bf16_f32

/-- Where the grid's point finds its rows, its columns and its slab, and where it writes. -/
theorem places : ∀ t : Fin cfg0.N, win0_0.index t = ![(grid0.coords t 0).val, 0] ∧ win0_1.index t = ![1, 0, (grid0.coords t 1).val]
    ∧ win0_2.index t = ![1, 0, (grid0.coords t 1).val] ∧ win0_3.index t = ![1, t.val, 0, 0]
    ∧ win0_4.index t = ![(grid0.coords t 0).val, (grid0.coords t 1).val] ∧ win0_5.index t = ![t.val, 0, 0] :=
  (by decide +kernel : ∀ t : Fin grid0.N, _)

variable (m : (ℓ : Loc nD τ sig) → Buf (Elt Ideal) ℓ) (c : Dev nD)

/-- One tile of the gated product, entry by entry. -/
theorem tile (t : Fin cfg0.N) (y : S2048x256.Idx) : k0_pay1 (F := Ideal) (iblk m c 0 t) (iblk m c 1 t) (iblk m c 2 t) y
    = gated (m ((c : Thread nD τ).loc main_arg0)) (m ((c : Thread nD τ).loc main_arg1)) (m ((c : Thread nD τ).loc main_arg2)) (((cfg0.win 4).blk t).view.emb y) := by
  pointwise [k0_pay1, gated, layer, ones]
  simp only [Ideal.logistic]
  blk_point [iblk, V, places t]

/-- One slab of the cast matrix, entry by entry. -/
theorem slab (t : Fin cfg0.N) (y : S1x32x4096.Idx) : k0_pay2 (F := Ideal) (iblk m c 3 t) y
    = slabs (m ((c : Thread nD τ).loc main_arg3)) (((cfg0.win 5).blk t).view.emb y) := by
  pointwise [k0_pay2, slabs]
  blk_point [iblk, V, places t]

/-- The whole gated product the grid leaves. -/
theorem whole : (dats m 0 c).arrAt 4 cfg0.N
    = gated (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact tile m c t y

/-- The whole cast matrix the grid leaves. -/
theorem whole_slabs : (dats m 0 c).arrAt 5 cfg0.N = slabs (m ((c : Thread nD τ).loc main_arg3)) := by
  refine (dats m 0 c).arrAt_eq_of_covers 5 _ (by decide +kernel) fun t _ y => ?_
  blk_simp
  rw [after0_5]; frame_out
  exact slab m c t y

end Cert.Gated
-- ==== Proof.ResidValue.lean ====
/-  The layer's last sum: the rows the grid writes are those of the residual stream plus its two normalized branches. -/
module

public import proofs.«01_k».proof.Proof.Gen.ResidIdeal.Value
public import proofs.«01_k».proof.Proof.Gen.ResidReferenceIdeal.Run
public import Idealize.ShloMosaic.Lib.Pipeline.ValueKit
public import Idealize.ShloMosaic.Lib.Pointwise

@[expose] public section

set_option maxRecDepth 16384

noncomputable section

namespace Cert.Rows

open Cert.ResidIdeal Cert.ResidIdeal.Gen Idealize.ShloMosaic Idealize.ShloMosaic.TcCoe Idealize.SL.Sem
open Idealize.ShloMosaic.Pipeline (Dat)

/-- A row's mean square plus the small constant, under the inverse root. -/
abbrev inverse (x : FVec Ideal S16384x4096 .f32) : FVec Ideal Cert.ResidReferenceIdeal.S16384x1 .f32 :=
  Host.rsqrt (addf (Host.divf (broadcastInDim Cert.ResidReferenceIdeal.S16384x1 ![0] Cert.ResidReferenceIdeal.Gen.bcast_S16384_S16384x1_0
        (Host.reduceAdd (mulf x x) (constant Cert.ResidReferenceIdeal.S_ .f32 0x00000000#32) Cert.ResidReferenceIdeal.Gen.reducesTo_S16384x4096_S16384_d1 Cert.ResidReferenceIdeal.Gen.h_S_))
      (broadcastInDim Cert.ResidReferenceIdeal.S16384x1 ![] Cert.ResidReferenceIdeal.Gen.bcast_S_S16384x1 (constant Cert.ResidReferenceIdeal.S_ .f32 0x45800000#32)))
    (broadcastInDim Cert.ResidReferenceIdeal.S16384x1 ![] Cert.ResidReferenceIdeal.Gen.bcast_S_S16384x1 (constant Cert.ResidReferenceIdeal.S_ .f32 0x358637BD#32)))

/-- The normalized rows, with their gain. -/
abbrev normed (x : FVec Ideal S16384x4096 .f32) (g : FVec Ideal S4096 .f32) : FVec Ideal S16384x4096 .f32 :=
  mulf (mulf x (broadcastInDim Cert.ResidReferenceIdeal.S16384x4096 ![0, 1] Cert.ResidReferenceIdeal.Gen.bcast_S16384x1_S16384x4096_0_1 (inverse x)))
    (broadcastInDim Cert.ResidReferenceIdeal.S16384x4096 ![0, 1] Cert.ResidReferenceIdeal.Gen.bcast_S1x4096_S16384x4096_0_1
      (broadcastInDim Cert.ResidReferenceIdeal.S1x4096 ![1] Cert.ResidReferenceIdeal.Gen.bcast_S4096_S1x4096_1 g))

/-- The residual stream plus the two branches. -/
abbrev total (h x f : FVec Ideal S16384x4096 .f32) (gx gf : FVec Ideal S4096 .f32) : FVec Ideal S16384x4096 .f32 :=
  addf (addf h (normed x gx)) (normed f gf)

/-- Where the grid's point finds its rows and the gains. -/
theorem places : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] :=
  (by decide +kernel : ∀ t : Fin grid0.N, _)

variable (m : (ℓ : Loc nD τ sig) → Buf (Elt Ideal) ℓ) (c : Dev nD)

/-- One block of rows, entry by entry. -/
theorem rows (t : Fin cfg0.N) (y : S256x4096.Idx) : k0_pay1 (F := Ideal) (iblk m c 0 t) (iblk m c 1 t) (iblk m c 3 t) (iblk m c 2 t) (iblk m c 4 t) y
    = total (m ((c : Thread nD τ).loc main_arg0)) (m ((c : Thread nD τ).loc main_arg1)) (m ((c : Thread nD τ).loc main_arg2))
      (m ((c : Thread nD τ).loc main_arg3)) (m ((c : Thread nD τ).loc main_arg4)) (((cfg0.win 5).blk t).view.emb y) := by
  pointwise [k0_pay1, total, normed, inverse]
  blk_point [iblk, V, places t]

/-- The whole array the grid leaves. -/
theorem whole : (dats m 0 c).arrAt 5 cfg0.N
    = total (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t _ y => ?_
  blk_simp
  rw [after0_5]; frame_out
  exact rows m c t y

end Cert.Rows
-- ==== Proof.CastValue.lean ====
/-  The first layer's second product and the casts of two matrices beside it, as the grid writes them. -/
module

public import proofs.«01_k».proof.Proof.Gen.CastIdeal.Value
public import proofs.«01_k».proof.Proof.Gen.CastReferenceIdeal.Run
public import Idealize.ShloMosaic.Lib.Pipeline.ValueKit
public import Idealize.ShloMosaic.Lib.Pointwise

@[expose] public section

set_option maxRecDepth 16384

noncomputable section

namespace Cert.CastProduct

open Cert.CastIdeal Cert.CastIdeal.Gen Idealize.ShloMosaic Idealize.ShloMosaic.TcCoe Idealize.SL.Sem
open Idealize.ShloMosaic.Pipeline (Dat)

/-- The product the reference forms, rounded once. -/
abbrev product (a : FVec Ideal S16384x11008 .f32) (w : FVec Ideal S11008x4096 .f32) : FVec Ideal S16384x4096 .bf16 :=
  truncf .bf16 (Host.dotGeneral Cert.CastReferenceIdeal.dot_S16384x11008_S11008x4096_S16384x4096_1_0_0_1_n_n none a w : FVec Ideal S16384x4096 .f32) Cert.CastReferenceIdeal.Gen.bitsLt_bf16_f32

/-- The query, key and value matrix, cut into the grid's slabs. -/
abbrev slabs (w : FVec Ideal S1x4096x5120 .f32) : FVec Ideal S256x16x5120 .bf16 :=
  truncf .bf16 (shapeCast Cert.CastReferenceIdeal.S256x16x5120 (shapeCast Cert.CastReferenceIdeal.S4096x5120 w Cert.CastReferenceIdeal.Gen.shapeCasts_S1x4096x5120_S4096x5120)
    Cert.CastReferenceIdeal.Gen.shapeCasts_S4096x5120_S256x16x5120) Cert.CastReferenceIdeal.Gen.bitsLt_bf16_f32

/-- The output matrix, cut into the grid's slabs. -/
abbrev slabs' (w : FVec Ideal S1x4096x4096 .f32) : FVec Ideal S256x16x4096 .bf16 :=
  truncf .bf16 (shapeCast Cert.CastReferenceIdeal.S256x16x4096 (shapeCast Cert.CastReferenceIdeal.S4096x4096 w Cert.CastReferenceIdeal.Gen.shapeCasts_S1x4096x4096_S4096x4096)
    Cert.CastReferenceIdeal.Gen.shapeCasts_S4096x4096_S256x16x4096) Cert.CastReferenceIdeal.Gen.bitsLt_bf16_f32

/-- Where the grid's point finds its rows, columns and slabs, and where it writes. -/
theorem places : ∀ t : Fin cfg0.N, win0_0.index t = ![(grid0.coords t 0).val, 0] ∧ win0_1.index t = ![0, 0, (grid0.coords t 1).val]
    ∧ win0_2.index t = ![0, t.val, 0, 0] ∧ win0_3.index t = ![0, t.val, 0, 0]
    ∧ win0_4.index t = ![(grid0.coords t 0).val, (grid0.coords t 1).val] ∧ win0_5.index t = ![t.val, 0, 0] ∧ win0_6.index t = ![t.val, 0, 0] :=
  (by decide +kernel : ∀ t : Fin grid0.N, _)

variable (m : (ℓ : Loc nD τ sig) → Buf (Elt Ideal) ℓ) (c : Dev nD)

/-- One tile of the product, entry by entry. -/
theorem tile (t : Fin cfg0.N) (y : S512x512.Idx) : k0_pay1 (F := Ideal) (iblk m c 0 t) (iblk m c 1 t) y
    = product (m ((c : Thread nD τ).loc main_arg0)) (m ((c : Thread nD τ).loc main_arg1)) (((cfg0.win 4).blk t).view.emb y) := by
  pointwise [k0_pay1, product]
  blk_point [iblk, V, places t]

/-- One slab of the first matrix, entry by entry. -/
theorem slab (t : Fin cfg0.N) (y : S1x16x5120.Idx) : k0_pay2 (F := Ideal) (iblk m c 2 t) y
    = slabs (m ((c : Thread nD τ).loc main_arg2)) (((cfg0.win 5).blk t).view.emb y) := by
  pointwise [k0_pay2, slabs]
  blk_point [iblk, V, places t]

/-- One slab of the second matrix, entry by entry. -/
theorem slab' (t : Fin cfg0.N) (y : S1x16x4096.Idx) : k0_pay3 (F := Ideal) (iblk m c 3 t) y
    = slabs' (m ((c : Thread nD τ).loc main_arg3)) (((cfg0.win 6).blk t).view.emb y) := by
  pointwise [k0_pay3, slabs']
  blk_point [iblk, V, places t]

/-- The whole product the grid leaves. -/
theorem whole : (dats m 0 c).arrAt 4 cfg0.N = product (m ((c : Thread nD τ).loc main_arg0)) (m ((c : Thread nD τ).loc main_arg1)) := by
  refine (dats m 0 c).arrAt_eq_of_covers 4 _ (by decide +kernel) fun t _ y => ?_
  blk_simp
  rw [after0_4]; frame_out
  exact tile m c t y

/-- The whole first cast matrix the grid leaves. -/
theorem first : (dats m 0 c).arrAt 5 cfg0.N = slabs (m ((c : Thread nD τ).loc main_arg2)) := by
  refine (dats m 0 c).arrAt_eq_of_covers 5 _ (by decide +kernel) fun t _ y => ?_
  blk_simp
  rw [after0_5]; frame_out
  exact slab m c t y

/-- The whole second cast matrix the grid leaves. -/
theorem second : (dats m 0 c).arrAt 6 cfg0.N = slabs' (m ((c : Thread nD τ).loc main_arg3)) := by
  refine (dats m 0 c).arrAt_eq_of_covers 6 _ (by decide +kernel) fun t _ y => ?_
  blk_simp
  rw [after0_6]; frame_out
  exact slab' m c t y

end Cert.CastProduct
-- ==== Proof.FirstValue.lean ====
/-  The first norm: the rows the grid writes are the normalized ones. -/
module

public import proofs.«01_k».proof.Proof.Gen.FirstIdeal.Value
public import proofs.«01_k».proof.Proof.Gen.FirstReferenceIdeal.Run
public import Idealize.ShloMosaic.Lib.Pipeline.ValueKit
public import Idealize.ShloMosaic.Lib.Pointwise
public import proofs.«01_k».proof.Proof.ResidValue

@[expose] public section

set_option maxRecDepth 16384

noncomputable section

namespace Cert.FirstRows

open Cert.FirstIdeal Cert.FirstIdeal.Gen Idealize.ShloMosaic Idealize.ShloMosaic.TcCoe Idealize.SL.Sem
open Idealize.ShloMosaic.Pipeline (Dat)

open Cert.Rows (normed inverse)

/-- Where the grid's point finds its rows and the gain. -/
theorem places : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

/-- One block of rows, entry by entry. -/
theorem rows (t : Fin cfg0.N) (y : S512x4096.Idx) : k0_pay1 (F := Ideal) (iblk m c 0 t) (iblk m c 1 t) y
    = normed (m ((c : Thread nD τ).loc main_arg0)) (m ((c : Thread nD τ).loc main_arg1)) (((cfg0.win 2).blk t).view.emb y) := by
  pointwise [k0_pay1, normed, inverse]
  blk_point [iblk, V, places t]

/-- The whole array the grid leaves. -/
theorem whole : (dats m 0 c).arrAt 2 cfg0.N = normed (m ((c : Thread nD τ).loc main_arg0)) (m ((c : Thread nD τ).loc main_arg1)) := by
  refine (dats m 0 c).arrAt_eq_of_covers 2 _ (by decide +kernel) fun t _ y => ?_
  blk_simp
  rw [after0_2]; frame_out
  exact rows m c t y

end Cert.FirstRows
-- ==== Proof.MixValue.lean ====
/-  The norm after a mixer: the rows the grid writes are those of the normalized residual sum. -/
module

public import proofs.«01_k».proof.Proof.Gen.MixIdeal.Value
public import proofs.«01_k».proof.Proof.Gen.MixReferenceIdeal.Run
public import Idealize.ShloMosaic.Lib.Pipeline.ValueKit
public import Idealize.ShloMosaic.Lib.Pointwise
public import proofs.«01_k».proof.Proof.ResidValue

@[expose] public section

set_option maxRecDepth 16384

noncomputable section

namespace Cert.MixRows

open Cert.MixIdeal Cert.MixIdeal.Gen Idealize.ShloMosaic Idealize.ShloMosaic.TcCoe Idealize.SL.Sem
open Idealize.ShloMosaic.Pipeline (Dat)

open Cert.Rows (normed inverse)

/-- The residual sum, normalized. -/
abbrev mixed (h x : FVec Ideal S16384x4096 .f32) (gx g : FVec Ideal S4096 .f32) : FVec Ideal S16384x4096 .bf16 :=
  truncf .bf16 (normed (addf h (normed x gx)) g) Cert.MixReferenceIdeal.Gen.bitsLt_bf16_f32

/-- Where the grid's point finds its rows and the gains. -/
theorem places : ∀ t : Fin cfg0.N, win0_0.index t = ![t.val, 0] ∧ win0_1.index t = ![t.val, 0] ∧ win0_2.index t = ![0, 0]
    ∧ win0_3.index t = ![0, 0] ∧ win0_4.index t = ![t.val, 0] :=
  (by decide +kernel : ∀ t : Fin grid0.N, _)

variable (m : (ℓ : Loc nD τ sig) → Buf (Elt Ideal) ℓ) (c : Dev nD)

/-- One block of rows, entry by entry. -/
theorem rows (t : Fin cfg0.N) (y : S512x4096.Idx) : k0_pay1 (F := Ideal) (iblk m c 0 t) (iblk m c 1 t) (iblk m c 2 t) (iblk m c 3 t) y
    = mixed (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, mixed, normed, inverse]
  blk_point [iblk, V, places t]

/-- The whole array the grid leaves. -/
theorem whole : (dats m 0 c).arrAt 4 cfg0.N = mixed (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact rows m c t y

end Cert.MixRows
-- ==== Proof.BetweenValue.lean ====
/-  Between the layers: the rows the grid writes are those of the residual sum, and of its norm. -/
module

public import proofs.«01_k».proof.Proof.Gen.BetweenIdeal.Value
public import proofs.«01_k».proof.Proof.Gen.BetweenReferenceIdeal.Run
public import Idealize.ShloMosaic.Lib.Pipeline.ValueKit
public import Idealize.ShloMosaic.Lib.Pointwise
public import proofs.«01_k».proof.Proof.ResidValue

@[expose] public section

set_option maxRecDepth 16384

noncomputable section

namespace Cert.BetweenRows

open Cert.BetweenIdeal Cert.BetweenIdeal.Gen Idealize.ShloMosaic Idealize.ShloMosaic.TcCoe Idealize.SL.Sem
open Idealize.ShloMosaic.Pipeline (Dat)

open Cert.Rows (total normed inverse)

/-- The residual sum, normalized. -/
abbrev normal (h x f : FVec Ideal S16384x4096 .f32) (gx gf g : FVec Ideal S4096 .f32) : FVec Ideal S16384x4096 .bf16 :=
  truncf .bf16 (normed (total h x f gx gf) g) Cert.BetweenReferenceIdeal.Gen.bitsLt_bf16_f32

/-- Where the grid's point finds its rows and the gains. -/
theorem places : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0] ∧ win0_7.index t = ![t.val, 0] :=
  (by decide +kernel : ∀ t : Fin grid0.N, _)

variable (m : (ℓ : Loc nD τ sig) → Buf (Elt Ideal) ℓ) (c : Dev nD)

/-- One block of rows of the sum, entry by entry. -/
theorem rows (t : Fin cfg0.N) (y : S256x4096.Idx) : k0_pay2 (F := Ideal) (iblk m c 0 t) (iblk m c 1 t) (iblk m c 3 t) (iblk m c 2 t) (iblk m c 4 t) y
    = total (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  pointwise [k0_pay2, total, normed, inverse]
  blk_point [iblk, V, places t]

/-- One block of rows of its norm, entry by entry. -/
theorem rows_normed (t : Fin cfg0.N) (y : S256x4096.Idx) :
    k0_pay1 (F := Ideal) (k0_pay2 (iblk m c 0 t) (iblk m c 1 t) (iblk m c 3 t) (iblk m c 2 t) (iblk m c 4 t)) (iblk m c 5 t) y
    = normal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 7).blk t).view.emb y) := by
  pointwise [k0_pay1, k0_pay2, normal, total, normed, inverse]
  blk_point [iblk, V, places t]

/-- The whole sum the grid leaves. -/
theorem whole : (dats m 0 c).arrAt 6 cfg0.N = total (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]; frame_out
  exact rows m c t y

/-- The whole norm the grid leaves. -/
theorem whole_normed : (dats m 0 c).arrAt 7 cfg0.N = normal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]; frame_out
  exact rows_normed m c t y

end Cert.BetweenRows
-- ==== Proof.QkvChunk.lean ====
/-  The kernel's rotation of a chunk of rows, entry by entry. -/
module

public import proofs.«01_k».proof.Proof.Gen.QkvIdeal.Skeleton
public import Idealize.ShloMosaic.Lib.Pointwise
public import Idealize.ShloMosaic.Lib.Pipeline.ValueKit

@[expose] public section

set_option maxRecDepth 16384

noncomputable section

namespace Cert.RotaryChunk

open Cert.QkvIdeal Cert.QkvIdeal.Gen Idealize.ShloMosaic Idealize.ShloMosaic.TcCoe Idealize.SL.Sem

/-- The mask of the lanes in a head's first half. -/
abbrev firsts : IVec S256x128 1 := k0_pay11 (Scalar.select (Scalar.cmpi .eq 64#32 0#32) 1#32 64#32) k0_pay8 k0_pay9 k0_pay10

/-- A lane of a table of 128. -/
abbrev lane (l : Fin 1024) : Fin 128 := ⟨l.val % 128, Nat.mod_lt _ (by decide)⟩

/-- Eight copies of a table side by side, read at a column. -/
theorem copies {α : Type} (f : Fin 128 → α) (l : Fin 1024) :
    (if h : l.val < 128 then f ⟨l.val, h⟩
      else if h : l.val - 128 < 128 then f ⟨l.val - 128, h⟩
      else if h : l.val - 128 - 128 < 128 then f ⟨l.val - 128 - 128, h⟩
      else if h : l.val - 128 - 128 - 128 < 128 then f ⟨l.val - 128 - 128 - 128, h⟩
      else if h : l.val - 128 - 128 - 128 - 128 < 128 then f ⟨l.val - 128 - 128 - 128 - 128, h⟩
      else if h : l.val - 128 - 128 - 128 - 128 - 128 < 128 then f ⟨l.val - 128 - 128 - 128 - 128 - 128, h⟩
      else if h : l.val - 128 - 128 - 128 - 128 - 128 - 128 < 128 then f ⟨l.val - 128 - 128 - 128 - 128 - 128 - 128, h⟩
      else f ⟨l.val - 128 - 128 - 128 - 128 - 128 - 128 - 128, by omega⟩) = f (lane l) := by
  split_ifs <;> exact congrArg f (Fin.ext (by dsimp only; omega))

/-- The word that says whether a lane is in its head's first half. -/
theorem half_word : ∀ l : Fin 128, IntOp.cmpi .slt
      (Scalar.select
        (IntOp.andi
          (IntOp.xori (IntOp.cmpi .slt (IntOp.remsi .vector (BitVec.ofNat 32 l.val) (Scalar.select (Scalar.cmpi .eq 64#32 0#32) 1#32 64#32)) 0#32)
            (Scalar.cmpi .slt (Scalar.select (Scalar.cmpi .eq 64#32 0#32) 1#32 64#32) 0#32))
          (IntOp.cmpi .ne (IntOp.remsi .vector (BitVec.ofNat 32 l.val) (Scalar.select (Scalar.cmpi .eq 64#32 0#32) 1#32 64#32)) 0#32))
        (IntOp.addi (IntOp.remsi .vector (BitVec.ofNat 32 l.val) (Scalar.select (Scalar.cmpi .eq 64#32 0#32) 1#32 64#32))
          (Scalar.select (Scalar.cmpi .eq 64#32 0#32) 1#32 64#32))
        (IntOp.remsi .vector (BitVec.ofNat 32 l.val) (Scalar.select (Scalar.cmpi .eq 64#32 0#32) 1#32 64#32)))
      32#32 = BitVec.ofBool (decide (l.val % 64 < 32)) := by
  decide +kernel

/-- The mask of first halves, read. -/
theorem firsts_at (r : Fin 256) (l : Fin 128) : firsts (ix2 r l) = BitVec.ofBool (decide (l.val % 64 < 32)) := by
  pointwise [firsts, k0_pay11, k0_pay8, k0_pay9, k0_pay10]
  exact half_word l

/-- The word that says whether a column is turned. -/
theorem column_word : ∀ (j : Fin 5) (l : Fin 1024), IntOp.cmpi .slt (IntOp.addi (Scalar.muli (BitVec.ofNat 32 j.val) 1024#32) (BitVec.ofNat 32 l.val)) 4608#32
    = BitVec.ofBool (decide (1024 * j.val + l.val < 4608)) := by
  decide +kernel

/-- A choice on a decided proposition. -/
theorem chosen {α : Type} (p : Prop) [Decidable p] (a b : α) : Scalar.select (BitVec.ofBool (decide p)) a b = if p then a else b := by
  by_cases h : p
  · rw [if_pos h, decide_eq_true h]; rfl
  · rw [if_neg h, decide_eq_false h]; rfl

/-- A projection's entry. -/
abbrev sums (w : Vec Ideal S1x4096x1024 .bf16) (x : Vec Ideal S256x4096 .bf16) (b : Vec Ideal S1x1x1024 .f32) (r : Fin 256) (l : Fin 1024) : EReal :=
  ∑ k : Fin 4096, (x (ix2 r k) : EReal) * w (ix3 0 k l) + b (ix3 0 0 l)

/-- The table of cosines. -/
theorem cosine_at (x3 : Vec Ideal S1024x1 .i32) (x4 : Vec Ideal S1x128 .f32) (r : Fin 1024) (l : Fin 128) :
    k0_pay4 (F := Ideal) x3 x4 (ix2 r l) = Ideal.cos (FloatOps.sitofp (F := Ideal) FTy.f32 (x3 (ix2 r 0)) * (x4 (ix2 0 l) : EReal)) := by
  pointwise [k0_pay4, k0_pay3]

/-- The table of sines, negative in the first halves. -/
theorem sine_at (x3 : Vec Ideal S1024x1 .i32) (x4 : Vec Ideal S1x128 .f32) (r : Fin 1024) (l : Fin 128) :
    k0_pay5 (F := Ideal) x3 x4 (ix2 r l) = if l.val % 64 < 32 then 0 - Ideal.sin (FloatOps.sitofp (F := Ideal) FTy.f32 (x3 (ix2 r 0)) * (x4 (ix2 0 l) : EReal))
      else Ideal.sin (FloatOps.sitofp (F := Ideal) FTy.f32 (x3 (ix2 r 0)) * (x4 (ix2 0 l) : EReal)) := by
  pointwise [k0_pay5, k0_pay3]
  rw [half_word, chosen]

/-- A chunk's entry: turned in the first 4608 columns. -/
theorem turn_at (i : grid0.Coords) (j : Fin 5) (hj : (i 1).val = j.val) (w : Vec Ideal S1x4096x1024 .bf16) (x : Vec Ideal S256x4096 .bf16) (b : Vec Ideal S1x1x1024 .f32)
    (cos sin : Vec Ideal S256x128 .f32) (r : Fin 256) (l : Fin 1024) :
    k0_pay2 (F := Ideal) (k0_pay6 w) (k0_pay7 i) firsts x b cos sin (ix2 r l)
    = if 1024 * j.val + l.val < 4608 then
        sums w x b r l * (cos (ix2 r (lane l)) : EReal)
          + (if (lane l).val % 64 < 32 then sums w x b r ⟨(l.val + 1024 - 992) % 1024, Nat.mod_lt _ (by decide)⟩ else sums w x b r ⟨(l.val + 1024 - 32) % 1024, Nat.mod_lt _ (by decide)⟩)
            * (sin (ix2 r (lane l)) : EReal)
      else sums w x b r l := by
  have hm : ∀ c, firsts (ix2 r c) = BitVec.ofBool (decide (c.val % 64 < 32)) := firsts_at r
  generalize firsts = half at hm
  pointwise [k0_pay2, k0_pay6, k0_pay7]
  have hc := copies (fun s => (cos (ix2 r s) : EReal)) l
  have hs := copies (fun s => (sin (ix2 r s) : EReal)) l
  have hh := copies (fun s => half (ix2 r s)) l
  beta_reduce at hc hs hh
  rw [hc, hs, hh, hm, hj, column_word, chosen, chosen]

/-- The first chunk's payload is the last's. -/
theorem first_chunk (W : FVec Ideal S4096x1024 .bf16) (mask : IVec S1x1024 1) (x : Vec Ideal S256x4096 .bf16) (b : Vec Ideal S1x1x1024 .f32) (cos sin : Vec Ideal S256x128 .f32) :
    k0_pay12 (F := Ideal) W mask (Scalar.select (Scalar.cmpi .eq 64#32 0#32) 1#32 64#32) k0_pay8 k0_pay9 k0_pay10 x b cos sin = k0_pay2 W mask firsts x b cos sin := rfl

/-- The second chunk's payload is the last's. -/
theorem second_chunk (W : FVec Ideal S4096x1024 .bf16) (mask : IVec S1x1024 1) (half : IVec S256x128 1) (x : Vec Ideal S256x4096 .bf16) (b : Vec Ideal S1x1x1024 .f32) (cos sin : Vec Ideal S256x128 .f32) :
    k0_pay14 (F := Ideal) mask half (k0_pay13 W x) b cos sin = k0_pay2 W mask half x b cos sin := rfl

/-- The third chunk's payload is the last's. -/
theorem third_chunk (W : FVec Ideal S4096x1024 .bf16) (mask : IVec S1x1024 1) (half : IVec S256x128 1) (x : Vec Ideal S256x4096 .bf16) (b : Vec Ideal S1x1x1024 .f32) (cos sin : Vec Ideal S256x128 .f32) :
    k0_pay1 (F := Ideal) (k0_pay15 W x b) (k0_pay16 W half x b cos sin) (k0_pay17 mask) = k0_pay2 W mask half x b cos sin := rfl

end Cert.RotaryChunk
-- ==== Proof.QkvRef.lean ====
/-  The reference's rotated queries and keys and its values, entry by entry. -/
module

public import proofs.«01_k».proof.Proof.Gen.QkvReferenceIdeal.Run
public import Idealize.ShloMosaic.Lib.Pointwise

@[expose] public section

set_option maxRecDepth 16384

noncomputable section

namespace Cert.RotaryRef

open Cert.QkvReferenceIdeal Cert.QkvReferenceIdeal.Gen Idealize.ShloMosaic Idealize.ShloMosaic.TcCoe Idealize.SL.Sem

/-- The projection with its bias. -/
abbrev proj (x : FVec Ideal S16384x4096 .f32) (w : FVec Ideal S1x4096x5120 .f32) (b : FVec Ideal S1x5120 .f32) : FVec Ideal S16384x5120 .f32 :=
  addf (Host.dotGeneral dot_S16384x4096_S4096x5120_S16384x5120_1_0_0_1_n_n none x (shapeCast _ w shapeCasts_S1x4096x5120_S4096x5120))
    (broadcastInDim S16384x5120 ![0, 1] bcast_S1x5120_S16384x5120_0_1 (broadcastInDim S1x5120 ![1] bcast_S5120_S1x5120_1 (shapeCast _ b shapeCasts_S1x5120_S5120)))

/-- The angle of every position and frequency. -/
abbrev angle (p : IVec S4x4096 32) : FVec Ideal S4x4096x32 .f32 :=
  mulf (broadcastInDim S4x4096x32 ![0, 1, 2] bcast_S4x4096x1_S4x4096x32_0_1_2 (broadcastInDim S4x4096x1 ![0, 1] bcast_S4x4096_S4x4096x1_0_1 (sitofp .f32 p)))
    (broadcastInDim S4x4096x32 ![0, 1, 2] bcast_S1x1x32_S4x4096x32_0_1_2 (broadcastInDim S1x1x32 ![2] bcast_S32_S1x1x32_2
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

/-- The query heads, turned by the angles. -/
def turnedQ (q : FVec Ideal S4x4096x64x64 .f32) (a : FVec Ideal S4x4096x32 .f32) : FVec Ideal S4x4096x64x64 .f32 :=
  concatenate S4x4096x64x64 3
    [⟨S4x4096x64x32, (subf (mulf (extractStridedSlice S4x4096x64x32 ![0, 0, 0, 0] q slices_S4x4096x64x64_S4x4096x64x32_0_0_0_0) (broadcastInDim S4x4096x64x32 ![0, 1, 2, 3] bcast_S4x4096x1x32_S4x4096x64x32_0_1_2_3 (broadcastInDim S4x4096x1x32 ![0, 1, 3] bcast_S4x4096x32_S4x4096x1x32_0_1_3 (Host.cos a))))
        (mulf (extractStridedSlice S4x4096x64x32 ![0, 0, 0, 32] q slices_S4x4096x64x64_S4x4096x64x32_0_0_0_32) (broadcastInDim S4x4096x64x32 ![0, 1, 2, 3] bcast_S4x4096x1x32_S4x4096x64x32_0_1_2_3 (broadcastInDim S4x4096x1x32 ![0, 1, 3] bcast_S4x4096x32_S4x4096x1x32_0_1_3 (Host.sin a)))) : FVec Ideal S4x4096x64x32 .f32)⟩,
     ⟨S4x4096x64x32, (addf (mulf (extractStridedSlice S4x4096x64x32 ![0, 0, 0, 32] q slices_S4x4096x64x64_S4x4096x64x32_0_0_0_32) (broadcastInDim S4x4096x64x32 ![0, 1, 2, 3] bcast_S4x4096x1x32_S4x4096x64x32_0_1_2_3 (broadcastInDim S4x4096x1x32 ![0, 1, 3] bcast_S4x4096x32_S4x4096x1x32_0_1_3 (Host.cos a))))
        (mulf (extractStridedSlice S4x4096x64x32 ![0, 0, 0, 0] q slices_S4x4096x64x64_S4x4096x64x32_0_0_0_0) (broadcastInDim S4x4096x64x32 ![0, 1, 2, 3] bcast_S4x4096x1x32_S4x4096x64x32_0_1_2_3 (broadcastInDim S4x4096x1x32 ![0, 1, 3] bcast_S4x4096x32_S4x4096x1x32_0_1_3 (Host.sin a)))) : FVec Ideal S4x4096x64x32 .f32)⟩] concatenates_S4x4096x64x32_S4x4096x64x32_S4x4096x64x64_d3

/-- The key heads, turned by the angles. -/
def turnedK (q : FVec Ideal S4x4096x8x64 .f32) (a : FVec Ideal S4x4096x32 .f32) : FVec Ideal S4x4096x8x64 .f32 :=
  concatenate S4x4096x8x64 3
    [⟨S4x4096x8x32, (subf (mulf (extractStridedSlice S4x4096x8x32 ![0, 0, 0, 0] q slices_S4x4096x8x64_S4x4096x8x32_0_0_0_0) (broadcastInDim S4x4096x8x32 ![0, 1, 2, 3] bcast_S4x4096x1x32_S4x4096x8x32_0_1_2_3 (broadcastInDim S4x4096x1x32 ![0, 1, 3] bcast_S4x4096x32_S4x4096x1x32_0_1_3 (Host.cos a))))
        (mulf (extractStridedSlice S4x4096x8x32 ![0, 0, 0, 32] q slices_S4x4096x8x64_S4x4096x8x32_0_0_0_32) (broadcastInDim S4x4096x8x32 ![0, 1, 2, 3] bcast_S4x4096x1x32_S4x4096x8x32_0_1_2_3 (broadcastInDim S4x4096x1x32 ![0, 1, 3] bcast_S4x4096x32_S4x4096x1x32_0_1_3 (Host.sin a)))) : FVec Ideal S4x4096x8x32 .f32)⟩,
     ⟨S4x4096x8x32, (addf (mulf (extractStridedSlice S4x4096x8x32 ![0, 0, 0, 32] q slices_S4x4096x8x64_S4x4096x8x32_0_0_0_32) (broadcastInDim S4x4096x8x32 ![0, 1, 2, 3] bcast_S4x4096x1x32_S4x4096x8x32_0_1_2_3 (broadcastInDim S4x4096x1x32 ![0, 1, 3] bcast_S4x4096x32_S4x4096x1x32_0_1_3 (Host.cos a))))
        (mulf (extractStridedSlice S4x4096x8x32 ![0, 0, 0, 0] q slices_S4x4096x8x64_S4x4096x8x32_0_0_0_0) (broadcastInDim S4x4096x8x32 ![0, 1, 2, 3] bcast_S4x4096x1x32_S4x4096x8x32_0_1_2_3 (broadcastInDim S4x4096x1x32 ![0, 1, 3] bcast_S4x4096x32_S4x4096x1x32_0_1_3 (Host.sin a)))) : FVec Ideal S4x4096x8x32 .f32)⟩] concatenates_S4x4096x8x32_S4x4096x8x32_S4x4096x8x64_d3

/-- Queries, keys and values side by side. -/
def joined (P : FVec Ideal S16384x5120 .f32) (a : FVec Ideal S4x4096x32 .f32) : FVec Ideal S16384x5120 .bf16 :=
  truncf .bf16 (concatenate S16384x5120 1
    [⟨S16384x4096, (shapeCast S16384x4096 (turnedQ (shapeCast S4x4096x64x64 (extractStridedSlice S4x4096x4096 ![0, 0, 0] (shapeCast S4x4096x5120 P shapeCasts_S16384x5120_S4x4096x5120)
        slices_S4x4096x5120_S4x4096x4096_0_0_0) shapeCasts_S4x4096x4096_S4x4096x64x64) a) shapeCasts_S4x4096x64x64_S16384x4096 : FVec Ideal S16384x4096 .f32)⟩,
     ⟨S16384x512, (shapeCast S16384x512 (turnedK (shapeCast S4x4096x8x64 (extractStridedSlice S4x4096x512 ![0, 0, 4096] (shapeCast S4x4096x5120 P shapeCasts_S16384x5120_S4x4096x5120)
        slices_S4x4096x5120_S4x4096x512_0_0_4096) shapeCasts_S4x4096x512_S4x4096x8x64) a) shapeCasts_S4x4096x8x64_S16384x512 : FVec Ideal S16384x512 .f32)⟩,
     ⟨S16384x512, (shapeCast S16384x512 (extractStridedSlice S4x4096x512 ![0, 0, 4608] (shapeCast S4x4096x5120 P shapeCasts_S16384x5120_S4x4096x5120)
        slices_S4x4096x5120_S4x4096x512_0_0_4608) shapeCasts_S4x4096x512_S16384x512 : FVec Ideal S16384x512 .f32)⟩]
    concatenates_S16384x4096_S16384x512_S16384x512_S16384x5120_d1) bitsLt_bf16_f32

/-- The run's result is that array. -/
theorem result_eq (m : (ℓ : Loc nD τ sig) → Buf (Elt Ideal) ℓ) (c : Dev nD) : Value.res_main_v74 m c
    = joined (proj (m ((c.tc : Thread nD τ).loc main_arg0)) (m ((c.tc : Thread nD τ).loc main_arg1)) (m ((c.tc : Thread nD τ).loc main_arg2)))
        (angle (m ((c.tc : Thread nD τ).loc main_arg3))) := rfl

/-- A head's entry turned by its position's angles: the first half with the second, and back. -/
def turn (q : Fin 64 → EReal) (a : Fin 32 → EReal) (d : Fin 64) : EReal :=
  if d.val < 32 then
    q d * Ideal.cos (a ⟨d.val % 32, Nat.mod_lt _ (by decide)⟩) - q ⟨(d.val + 32) % 64, Nat.mod_lt _ (by decide)⟩ * Ideal.sin (a ⟨d.val % 32, Nat.mod_lt _ (by decide)⟩)
  else
    q d * Ideal.cos (a ⟨d.val % 32, Nat.mod_lt _ (by decide)⟩) + q ⟨(d.val + 32) % 64, Nat.mod_lt _ (by decide)⟩ * Ideal.sin (a ⟨d.val % 32, Nat.mod_lt _ (by decide)⟩)

/-- A turned query entry. -/
theorem turnedQ_at (q : FVec Ideal S4x4096x64x64 .f32) (a : FVec Ideal S4x4096x32 .f32) (i : Fin 4) (j : Fin 4096) (h : Fin 64) (d : Fin 64) :
    turnedQ q a (ix4 i j h d) = turn (fun e => q (ix4 i j h e)) (fun e => a (ix3 i j e)) d := by
  pointwise [turnedQ]
  by_cases hd : d.val < 32
  · have h1 : (⟨d.val % 32, Nat.mod_lt _ (by decide)⟩ : Fin 32) = ⟨d.val, hd⟩ := Fin.ext (by dsimp only; omega)
    have h2 : (⟨(d.val + 32) % 64, Nat.mod_lt _ (by decide)⟩ : Fin 64) = ⟨32 + d.val, by omega⟩ := Fin.ext (by dsimp only; omega)
    rw [turn, if_pos hd, h1, h2]
    exact dif_pos hd
  · have h1 : (⟨d.val % 32, Nat.mod_lt _ (by decide)⟩ : Fin 32) = ⟨d.val - 32, by omega⟩ := Fin.ext (by dsimp only; omega)
    have h2 : (⟨(d.val + 32) % 64, Nat.mod_lt _ (by decide)⟩ : Fin 64) = ⟨d.val - 32, by omega⟩ := Fin.ext (by dsimp only; omega)
    have h3 : (⟨32 + (d.val - 32), by omega⟩ : Fin 64) = d := Fin.ext (by dsimp only; omega)
    rw [turn, if_neg hd, h1, h2]
    refine (dif_neg hd).trans ?_
    rw [h3]

/-- A turned key entry. -/
theorem turnedK_at (q : FVec Ideal S4x4096x8x64 .f32) (a : FVec Ideal S4x4096x32 .f32) (i : Fin 4) (j : Fin 4096) (h : Fin 8) (d : Fin 64) :
    turnedK q a (ix4 i j h d) = turn (fun e => q (ix4 i j h e)) (fun e => a (ix3 i j e)) d := by
  pointwise [turnedK]
  by_cases hd : d.val < 32
  · have h1 : (⟨d.val % 32, Nat.mod_lt _ (by decide)⟩ : Fin 32) = ⟨d.val, hd⟩ := Fin.ext (by dsimp only; omega)
    have h2 : (⟨(d.val + 32) % 64, Nat.mod_lt _ (by decide)⟩ : Fin 64) = ⟨32 + d.val, by omega⟩ := Fin.ext (by dsimp only; omega)
    rw [turn, if_pos hd, h1, h2]
    exact dif_pos hd
  · have h1 : (⟨d.val % 32, Nat.mod_lt _ (by decide)⟩ : Fin 32) = ⟨d.val - 32, by omega⟩ := Fin.ext (by dsimp only; omega)
    have h2 : (⟨(d.val + 32) % 64, Nat.mod_lt _ (by decide)⟩ : Fin 64) = ⟨d.val - 32, by omega⟩ := Fin.ext (by dsimp only; omega)
    have h3 : (⟨32 + (d.val - 32), by omega⟩ : Fin 64) = d := Fin.ext (by dsimp only; omega)
    rw [turn, if_neg hd, h1, h2]
    refine (dif_neg hd).trans ?_
    rw [h3]

/-- The column of a head's lane. -/
abbrev column (C : Fin 5120) (d : Fin 64) : Fin 5120 := ⟨C.val / 64 * 64 + d.val, by omega⟩

/-- The result at a row and a column: in the first 4608 columns the head turned by the row's angles. -/
theorem joined_at (P : FVec Ideal S16384x5120 .f32) (a : FVec Ideal S4x4096x32 .f32) (R : Fin 16384) (C : Fin 5120) :
    joined P a (ix2 R C) = if C.val < 4608 then
        turn (fun d => P (ix2 R (column C d))) (fun e => a (ix3 ⟨R.val / 4096, by omega⟩ ⟨R.val % 4096, Nat.mod_lt _ (by decide)⟩ e)) ⟨C.val % 64, Nat.mod_lt _ (by decide)⟩
      else P (ix2 R C) := by
  by_cases h1 : C.val < 4096
  · have h3 : C.val < 4608 := by omega
    rw [if_pos h3]
    pointwise [joined]
    refine (dif_pos h1).trans ((turnedQ_at _ _ _ _ _ _).trans ?_)
    refine congrArg (fun q => turn q _ _) (funext fun d => ?_)
    pointwise []
  · by_cases h2 : C.val - 4096 < 512
    · have h3 : C.val < 4608 := by omega
      rw [if_pos h3]
      pointwise [joined]
      refine (dif_neg h1).trans ((dif_pos h2).trans ((turnedK_at _ _ _ _ _ _).trans ?_))
      have h4 : (⟨(C.val - 4096) % 64, Nat.mod_lt _ (by decide)⟩ : Fin 64) = ⟨C.val % 64, Nat.mod_lt _ (by decide)⟩ := Fin.ext (by dsimp only; omega)
      rw [h4]
      refine congrArg (fun q => turn q _ _) (funext fun d => ?_)
      have h5 : (C.val - 4096) / 64 * 64 + d.val + 4096 = C.val / 64 * 64 + d.val := by omega
      pointwise []
      refine congrArg (fun k => P (ix2 R k)) (Fin.ext ?_)
      dsimp only
      omega
    · have h3 : ¬ C.val < 4608 := by omega
      have h4 : (⟨4608 + (C.val - 4096 - 512), by omega⟩ : Fin 5120) = C := Fin.ext (by dsimp only; omega)
      rw [if_neg h3]
      pointwise [joined]
      refine (dif_neg h1).trans ((dif_neg h2).trans ?_)
      rw [h4]

end Cert.RotaryRef
-- ==== Proof.QkvBlock.lean ====
/-  A block of the projection: its tables, its products and its turned chunk against the reference. -/
module

public import proofs.«01_k».proof.Proof.Gen.QkvIdeal.Value
public import proofs.«01_k».proof.Proof.QkvChunk
public import proofs.«01_k».proof.Proof.QkvRef

@[expose] public section

set_option maxRecDepth 16384

noncomputable section

namespace Cert.Rotary

open Cert.QkvIdeal Cert.QkvIdeal.Gen Idealize.ShloMosaic Idealize.ShloMosaic.TcCoe Idealize.SL.Sem
open Idealize.ShloMosaic.Pipeline (Dat)
open Cert.RotaryRef (proj angle joined turn column joined_at)
open Cert.RotaryChunk

/-- Where the grid's point finds its blocks, and its column coordinate. -/
theorem places : ∀ t : Fin cfg0.N, win0_0.index t = ![t.val / 5, 0] ∧ win0_1.index t = ![0, 0, t.val % 5] ∧ win0_2.index t = ![0, 0, t.val % 5]
    ∧ win0_3.index t = ![t.val / 5, 0] ∧ win0_4.index t = ![0, 0] ∧ win0_5.index t = ![t.val / 5, t.val % 5] ∧ (grid0.coords t 1).val = t.val % 5 :=
  (by decide +kernel : ∀ t : Fin grid0.N, _)

/-- A projection's entry in the reference. -/
theorem proj_at (x : FVec Ideal S16384x4096 .f32) (w : FVec Ideal S1x4096x5120 .f32) (b : FVec Ideal S1x5120 .f32) (R : Fin 16384) (C : Fin 5120) :
    proj x w b (ix2 R C) = ∑ k : Fin 4096, x (ix2 R k) * w (ix3 0 k C) + b (ix2 0 C) := by
  pointwise [proj]

variable (m : (ℓ : Loc nD τ sig) → Buf (Elt Ideal) ℓ) (c : Dev nD)

/-- The reference's projection. -/
abbrev whole_proj : FVec Ideal S16384x5120 .f32 := proj (m ((c : Thread nD τ).loc main_arg0)) (m ((c : Thread nD τ).loc main_arg1)) (m ((c : Thread nD τ).loc main_arg2))

/-- The reference's angle at a row and a lane. -/
abbrev angle_at (R : Fin 16384) (l : Fin 128) : EReal :=
  angle (m ((c : Thread nD τ).loc main_arg3)) (ix3 ⟨R.val / 4096, by omega⟩ ⟨R.val % 4096, Nat.mod_lt _ (by decide)⟩ ⟨l.val % 32, Nat.mod_lt _ (by decide)⟩)

/-- The kernel's angle at a row and a lane. -/
theorem block_angle (t : Fin cfg0.N) (r : Fin 1024) (l : Fin 128) (R : Fin 16384) (hR : R.val = t.val / 5 * 1024 + r.val) :
    FloatOps.sitofp (F := Ideal) FTy.f32 (iblk m c 3 t (ix2 r 0)) * (show EReal from iblk m c 4 t (ix2 0 l)) = angle_at m c R l := by
  pointwise [angle_at, angle]
  blk_point [iblk, V, places t]

/-- A block's product and bias. -/
theorem block_sums (t : Fin cfg0.N) (x : Vec Ideal S256x4096 .bf16) (r : Fin 256) (l : Fin 1024) (R : Fin 16384) (C : Fin 5120)
    (hx : ∀ k : Fin 4096, (x (ix2 r k) : EReal) = m ((c : Thread nD τ).loc main_arg0) (ix2 R k)) (hC : C.val = 1024 * (t.val % 5) + l.val) :
    sums (iblk m c 1 t) x (iblk m c 2 t) r l = whole_proj m c (ix2 R C) := by
  refine Eq.trans ?_ (proj_at _ _ _ R C).symm
  refine Ideal.add_congr (Finset.sum_congr rfl fun k _ => Ideal.mul_congr (hx k) ?_) ?_
  · blk_point [iblk, V, places t]
  · blk_point [iblk, V, places t]

/-- The scratch tables after any point: cosines and signed sines of its rows. -/
theorem tables : ∀ (n : ℕ) (h : n < cfg0.N), (outsAt0 m c n h).2.1 = k0_pay4 (F := Ideal) (iblk m c 3 ⟨n, h⟩) (iblk m c 4 ⟨n, h⟩)
    ∧ (outsAt0 m c n h).2.2 = k0_pay5 (F := Ideal) (iblk m c 3 ⟨n, h⟩) (iblk m c 4 ⟨n, h⟩) := by
  intro n
  induction n with
  | zero =>
    intro h
    have e := outsAt0_A m c ⟨0, h⟩ rfl
    rw [show outsAt0 m c 0 h = _ from e]
    refine ⟨?_, ?_⟩
    · frame_out
    · frame_out
  | succ k ih =>
    intro h
    by_cases h0 : (k + 1) % 5 = 0
    · rw [show outsAt0 m c (k + 1) h = _ from outsAt0_A m c ⟨k + 1, h⟩ h0]
      refine ⟨?_, ?_⟩
      · frame_out
      · frame_out
    · rw [show outsAt0 m c (k + 1) h = _ from outsAt0_B m c ⟨k + 1, h⟩ h0]
      have h3 : iblk m c 3 ⟨k, Nat.lt_of_succ_lt h⟩ = iblk m c 3 ⟨k + 1, h⟩ := by
        funext y
        blk_point [iblk, V, places ⟨k, Nat.lt_of_succ_lt h⟩, places ⟨k + 1, h⟩]
      have h4 : iblk m c 4 ⟨k, Nat.lt_of_succ_lt h⟩ = iblk m c 4 ⟨k + 1, h⟩ := by
        funext y
        blk_point [iblk, V, places ⟨k, Nat.lt_of_succ_lt h⟩, places ⟨k + 1, h⟩]
      rw [← h3, ← h4]
      exact ih (Nat.lt_of_succ_lt h)

/-- A chunk of rows against the reference. -/
theorem chunk (t : Fin cfg0.N) (x : Vec Ideal S256x4096 .bf16) (cos sin : Vec Ideal S256x128 .f32) (r : Fin 256) (l : Fin 1024) (R : Fin 16384) (C : Fin 5120)
    (hx : ∀ k : Fin 4096, (x (ix2 r k) : EReal) = m ((c : Thread nD τ).loc main_arg0) (ix2 R k)) (hC : C.val = 1024 * (t.val % 5) + l.val)
    (hcos : ∀ d : Fin 128, (cos (ix2 r d) : EReal) = Ideal.cos (angle_at m c R d))
    (hsin : ∀ d : Fin 128, (sin (ix2 r d) : EReal) = if d.val % 64 < 32 then 0 - Ideal.sin (angle_at m c R d) else Ideal.sin (angle_at m c R d)) :
    k0_pay2 (F := Ideal) (k0_pay6 (iblk m c 1 t)) (k0_pay7 (grid0.coords t)) firsts x (iblk m c 2 t) cos sin (ix2 r l)
    = joined (whole_proj m c) (angle (m ((c : Thread nD τ).loc main_arg3))) (ix2 R C) := by
  have hj : (grid0.coords t 1).val = (⟨t.val % 5, Nat.mod_lt _ (by decide)⟩ : Fin 5).val := (places t).2.2.2.2.2.2
  refine (turn_at (grid0.coords t) _ hj _ _ _ _ _ r l).trans (Eq.trans ?_ (joined_at _ _ R C).symm)
  by_cases h : C.val < 4608
  · have h' : 1024 * (t.val % 5) + l.val < 4608 := by omega
    rw [if_pos h', if_pos h, block_sums m c t x r l R C hx hC, hcos, hsin]
    have ha : (⟨(lane l).val % 32, Nat.mod_lt _ (by decide)⟩ : Fin 32) = ⟨C.val % 64 % 32, Nat.mod_lt _ (by decide)⟩ := Fin.ext (by dsimp only; omega)
    have hq : column C ⟨C.val % 64, Nat.mod_lt _ (by decide)⟩ = C := Fin.ext (by dsimp only; omega)
    unfold angle_at turn
    rw [ha]
    beta_reduce
    rw [hq]
    by_cases hd : C.val % 64 < 32
    · have hl : (lane l).val % 64 < 32 := by dsimp only; omega
      rw [if_pos hl, if_pos hl, if_pos hd, block_sums m c t x r _ R (column C ⟨(C.val % 64 + 32) % 64, Nat.mod_lt _ (by decide)⟩) hx (by dsimp only; omega)]
      rw [zero_sub, mul_neg, ← sub_eq_add_neg]
    · have hl : ¬ (lane l).val % 64 < 32 := by dsimp only; omega
      rw [if_neg hl, if_neg hl, if_neg hd, block_sums m c t x r _ R (column C ⟨(C.val % 64 + 32) % 64, Nat.mod_lt _ (by decide)⟩) hx (by dsimp only; omega)]
  · have h' : ¬ 1024 * (t.val % 5) + l.val < 4608 := by omega
    rw [if_neg h', if_neg h, block_sums m c t x r l R C hx hC]

end Cert.Rotary
-- ==== Proof.QkvValue.lean ====
/-  The whole array of rotated queries, keys and values. -/
module

public import proofs.«01_k».proof.Proof.QkvBlock
public import Idealize.ShloMosaic.Lib.Pipeline.ReadBack

@[expose] public section

set_option maxRecDepth 16384

noncomputable section

namespace Cert.Rotary

open Cert.QkvIdeal Cert.QkvIdeal.Gen Idealize.ShloMosaic Idealize.ShloMosaic.TcCoe Idealize.SL.Sem
open Idealize.ShloMosaic.Pipeline (Dat)
open Cert.RotaryRef (proj angle joined turn column joined_at)
open Cert.RotaryChunk

variable (m : (ℓ : Loc nD τ sig) → Buf (Elt Ideal) ℓ) (c : Dev nD)

/-- A chunk whose rows start at `o`, against the reference at the block's place. -/
theorem piece (t : Fin cfg0.N) (o : ℕ) (ho : o ≤ 768) (x : Vec Ideal S256x4096 .bf16) (cos sin : Vec Ideal S256x128 .f32) (p : S256x1024.Idx) (y : S1024x1024.Idx)
    (h0 : (y 0).val = o + (p 0).val) (h1 : (y 1).val = (p 1).val)
    (hx : ∀ (r : Fin 256) (k : Fin 4096), x (ix2 r k) = iblk m c 0 t (ix2 (⟨o + r.val, by omega⟩ : Fin 1024) k))
    (hcos : ∀ (r : Fin 256) (d : Fin 128), cos (ix2 r d) = k0_pay4 (F := Ideal) (iblk m c 3 t) (iblk m c 4 t) (ix2 (⟨o + r.val, by omega⟩ : Fin 1024) d))
    (hsin : ∀ (r : Fin 256) (d : Fin 128), sin (ix2 r d) = k0_pay5 (F := Ideal) (iblk m c 3 t) (iblk m c 4 t) (ix2 (⟨o + r.val, by omega⟩ : Fin 1024) d)) :
    k0_pay2 (F := Ideal) (k0_pay6 (iblk m c 1 t)) (k0_pay7 (grid0.coords t)) firsts x (iblk m c 2 t) cos sin p
    = joined (whole_proj m c) (angle (m ((c : Thread nD τ).loc main_arg3))) (((cfg0.win 5).blk t).view.emb y) := by
  idx_vars p
  idx_vars y
  have ht : t.val < 80 := lt_of_lt_of_eq t.isLt N_0
  have e0 : y0.val = o + p0.val := h0
  have e1 : y1.val = p1.val := h1
  have hR : t.val / 5 * 1024 + y0.val < 16384 := by omega
  have hp : p1.val < 1024 := p1.isLt
  have hC : 1024 * (t.val % 5) + p1.val < 5120 := by omega
  refine (chunk m c t x cos sin p0 p1 ⟨t.val / 5 * 1024 + y0.val, hR⟩ ⟨1024 * (t.val % 5) + p1.val, hC⟩ (fun k => ?_) rfl (fun d => ?_) (fun d => ?_)).trans ?_
  · rw [hx]
    blk_point [iblk, V, places t]
  · rw [hcos]
    exact (cosine_at _ _ _ d).trans (congrArg Ideal.cos (block_angle m c t _ d _ (by dsimp only; omega)))
  · rw [hsin]
    refine (sine_at _ _ _ d).trans ?_
    have e := block_angle m c t ⟨o + p0.val, by omega⟩ d ⟨t.val / 5 * 1024 + y0.val, hR⟩ (by dsimp only; omega)
    exact congrArg (fun a => if d.val % 64 < 32 then 0 - Ideal.sin a else Ideal.sin a) e
  · refine congrArg _ ?_
    blk_ext [places t]

/-- The block of a point at a place. -/
theorem point (t : Fin cfg0.N) (y : S1024x1024.Idx) : (outsAt0 m c t.val t.isLt).1 y
    = joined (whole_proj m c) (angle (m ((c : Thread nD τ).loc main_arg3))) (((cfg0.win 5).blk t).view.emb y) := by
  by_cases hr : t.val % 5 = 0
  · rw [outsAt0_A m c t hr]
    frame_out
    have origin : ∀ a, (![0, 0] : Fin S1024x128.rank → ℕ) a = 0 := by decide
    simp only [View.readCov_fill (s := S1024x128) (h := origin)]
    clear origin
    canon_tiles x h
    case piece0 =>
      refine (piece m c t 768 (by decide) _ _ _ x y h0 h1 (fun r k => ?_) (fun r d => ?_) (fun r d => ?_))
      all_goals pointwise []
    case piece1 =>
      refine (congrFun (third_chunk _ _ firsts _ _ _ _) x).trans (piece m c t 512 (by decide) _ _ _ x y h0 h1 (fun r k => ?_) (fun r d => ?_) (fun r d => ?_))
      all_goals pointwise []
    case piece2 =>
      refine (congrFun (second_chunk _ _ firsts _ _ _ _) x).trans (piece m c t 256 (by decide) _ _ _ x y h0 h1 (fun r k => ?_) (fun r d => ?_) (fun r d => ?_))
      all_goals pointwise []
    case piece3 =>
      refine (congrFun (first_chunk _ _ _ _ _ _) x).trans (piece m c t 0 (by decide) _ _ _ x y (h0.trans (Nat.zero_add _).symm) h1 (fun r k => ?_) (fun r d => ?_) (fun r d => ?_))
      all_goals pointwise []
  · have h4 : (outsAt0 m c (t.val - 1) (Nat.lt_of_le_of_lt (Nat.sub_le _ _) t.isLt)).2.1 = k0_pay4 (F := Ideal) (iblk m c 3 t) (iblk m c 4 t) := by
      have e := (tables m c t.val t.isLt).1
      rw [outsAt0_B m c t hr] at e
      exact e
    have h5 : (outsAt0 m c (t.val - 1) (Nat.lt_of_le_of_lt (Nat.sub_le _ _) t.isLt)).2.2 = k0_pay5 (F := Ideal) (iblk m c 3 t) (iblk m c 4 t) := by
      have e := (tables m c t.val t.isLt).2
      rw [outsAt0_B m c t hr] at e
      exact e
    rw [outsAt0_B m c t hr]
    frame_out
    simp only [read_unread_whole, h4, h5]
    clear h4 h5
    canon_tiles x h
    case piece0 =>
      refine (piece m c t 768 (by decide) _ _ _ x y h0 h1 (fun r k => ?_) (fun r d => ?_) (fun r d => ?_))
      all_goals pointwise []
    case piece1 =>
      refine (congrFun (third_chunk _ _ firsts _ _ _ _) x).trans (piece m c t 512 (by decide) _ _ _ x y h0 h1 (fun r k => ?_) (fun r d => ?_) (fun r d => ?_))
      all_goals pointwise []
    case piece2 =>
      refine (congrFun (second_chunk _ _ firsts _ _ _ _) x).trans (piece m c t 256 (by decide) _ _ _ x y h0 h1 (fun r k => ?_) (fun r d => ?_) (fun r d => ?_))
      all_goals pointwise []
    case piece3 =>
      refine (congrFun (first_chunk _ _ _ _ _ _) x).trans (piece m c t 0 (by decide) _ _ _ x y (h0.trans (Nat.zero_add _).symm) h1 (fun r k => ?_) (fun r d => ?_) (fun r d => ?_))
      all_goals pointwise []

/-- The whole array the grid leaves. -/
theorem whole : (dats m 0 c).arrAt 5 cfg0.N = joined (whole_proj m c) (angle (m ((c : Thread nD τ).loc main_arg3))) := by
  refine (dats m 0 c).arrAt_eq_of_covers 5 _ (by decide +kernel) fun t _ y => ?_
  blk_simp
  rw [after0_5]
  exact point m c t y

end Cert.Rotary
-- ==== Proof.lean ====
/-  The certificate's claims, from the generated frames and the value theorems of the modules beside this one. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Pre_finite_scores
public import proofs.«01_k».proof.Proof.Match
public import proofs.«01_k».proof.Proof.Finite
public import Idealize.ShloMosaic.Lib.Claim
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpIdeal.Value
public import proofs.«01_k».proof.Proof.Gen.UpReferenceIdeal
public import proofs.«01_k».proof.Proof.Gen.UpReferenceIdeal.Run
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownReferenceIdeal
public import proofs.«01_k».proof.Proof.Gen.DownReferenceIdeal.Run
public import proofs.«01_k».proof.Proof.Gen.Glu
public import proofs.«01_k».proof.Proof.Gen.Glu.Frame
public import proofs.«01_k».proof.Proof.Gen.GluIdeal
public import proofs.«01_k».proof.Proof.Gen.GluIdeal.Frame
public import proofs.«01_k».proof.Proof.Gen.GluIdeal.Value
public import proofs.«01_k».proof.Proof.Gen.GluReferenceIdeal
public import proofs.«01_k».proof.Proof.Gen.GluReferenceIdeal.Run
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutIdeal.Value
public import proofs.«01_k».proof.Proof.Gen.OutReferenceIdeal
public import proofs.«01_k».proof.Proof.Gen.OutReferenceIdeal.Run
public import proofs.«01_k».proof.Proof.Gen.Resid
public import proofs.«01_k».proof.Proof.Gen.Resid.Frame
public import proofs.«01_k».proof.Proof.Gen.ResidIdeal
public import proofs.«01_k».proof.Proof.Gen.ResidIdeal.Frame
public import proofs.«01_k».proof.Proof.Gen.ResidIdeal.Value
public import proofs.«01_k».proof.Proof.Gen.ResidReferenceIdeal
public import proofs.«01_k».proof.Proof.Gen.ResidReferenceIdeal.Run
public import proofs.«01_k».proof.Proof.Gen.Cast
public import proofs.«01_k».proof.Proof.Gen.Cast.Frame
public import proofs.«01_k».proof.Proof.Gen.CastIdeal
public import proofs.«01_k».proof.Proof.Gen.CastIdeal.Frame
public import proofs.«01_k».proof.Proof.Gen.CastIdeal.Value
public import proofs.«01_k».proof.Proof.Gen.CastReferenceIdeal
public import proofs.«01_k».proof.Proof.Gen.CastReferenceIdeal.Run
public import proofs.«01_k».proof.Proof.Gen.First
public import proofs.«01_k».proof.Proof.Gen.First.Frame
public import proofs.«01_k».proof.Proof.Gen.FirstIdeal
public import proofs.«01_k».proof.Proof.Gen.FirstIdeal.Frame
public import proofs.«01_k».proof.Proof.Gen.FirstIdeal.Value
public import proofs.«01_k».proof.Proof.Gen.FirstReferenceIdeal
public import proofs.«01_k».proof.Proof.Gen.FirstReferenceIdeal.Run
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixIdeal.Value
public import proofs.«01_k».proof.Proof.Gen.MixReferenceIdeal
public import proofs.«01_k».proof.Proof.Gen.MixReferenceIdeal.Run
public import proofs.«01_k».proof.Proof.Gen.Between
public import proofs.«01_k».proof.Proof.Gen.Between.Frame
public import proofs.«01_k».proof.Proof.Gen.BetweenIdeal
public import proofs.«01_k».proof.Proof.Gen.BetweenIdeal.Frame
public import proofs.«01_k».proof.Proof.Gen.BetweenIdeal.Value
public import proofs.«01_k».proof.Proof.Gen.BetweenReferenceIdeal
public import proofs.«01_k».proof.Proof.Gen.BetweenReferenceIdeal.Run
public import proofs.«01_k».proof.Proof.Gen.Qkv
public import proofs.«01_k».proof.Proof.Gen.Qkv.Frame
public import proofs.«01_k».proof.Proof.Gen.QkvIdeal
public import proofs.«01_k».proof.Proof.Gen.QkvIdeal.Frame
public import proofs.«01_k».proof.Proof.Gen.QkvIdeal.Value
public import proofs.«01_k».proof.Proof.Gen.QkvReferenceIdeal
public import proofs.«01_k».proof.Proof.Gen.QkvReferenceIdeal.Run
public import proofs.«01_k».proof.Proof.DownValue
public import proofs.«01_k».proof.Proof.GluValue
public import proofs.«01_k».proof.Proof.OutValue
public import proofs.«01_k».proof.Proof.UpValue
public import proofs.«01_k».proof.Proof.ResidValue
public import proofs.«01_k».proof.Proof.CastValue
public import proofs.«01_k».proof.Proof.FirstValue
public import proofs.«01_k».proof.Proof.MixValue
public import proofs.«01_k».proof.Proof.BetweenValue
public import proofs.«01_k».proof.Proof.QkvValue
public import Idealize.ShloMosaic.Adequacy
public import Idealize.ShloMosaic.Init

@[expose] public section

noncomputable section

namespace Cert.Proof

open Idealize.ShloMosaic Idealize.SL.Sem Cert.Kernel

/-- The attention call's value: its result is the reference's, over real queries, keys and sinks. -/
theorem attention [hP : Cert.Pre_finite_scores.Facts] :
    Cert.algebraic_KernelIdeal_ReferenceIdeal_pre_finite_scores (hKernelIdeal := Cert.KernelIdeal.Gen.facts) (hReferenceIdeal := Cert.ReferenceIdeal.Gen.facts) := by
  intro m g m' g' hpre hargs
  refine ⟨fun c => (Cert.KernelIdeal.Gen.dats m 0 c).arrAt 6 Cert.KernelIdeal.cfg0.N, Cert.KernelIdeal.Value.run_blocks m g,
    (θ_run Cert.ReferenceIdeal.defs _ _).mono (fun r h c => ⟨(h c).1.trans ?_, (h c).2⟩) (Cert.ReferenceIdeal.Value.run m' g')⟩
  obtain ⟨hq, hk, hs⟩ := Cert.Finite.reals (hpre c)
  obtain ⟨a0, a1, a2, a3⟩ := hargs c
  refine Eq.trans ?_ (Cert.Attn.value m c hq hk hs).symm
  refine (Cert.AttnRef.result_eq m' c).trans ?_
  rw [a0, a1, a2, a3]

/-- The reference's frame: its run, and no semaphore in its signature. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems rfl r.2⟩) (Cert.ReferenceIdeal.Value.run m g)

/-- The gated product and the cast copy of the last matrix, as the reference forms them. -/
theorem gate : Cert.algebraic_UpIdeal_UpReferenceIdeal (hUpIdeal := Cert.UpIdeal.Gen.facts) (hUpReferenceIdeal := Cert.UpReferenceIdeal.Gen.facts) := by
  intro m g m' g' _ hargs
  refine ⟨fun c => (Cert.UpIdeal.Gen.dats m 0 c).arrAt 4 Cert.UpIdeal.cfg0.N, fun c => (Cert.UpIdeal.Gen.dats m 0 c).arrAt 5 Cert.UpIdeal.cfg0.N, Cert.UpIdeal.Value.run_blocks m g,
    (θ_run Cert.UpReferenceIdeal.defs _ _).mono (fun r h c => ⟨(h c).1.trans ?_, (h c).2.1.trans ?_, (h c).2.2⟩) (Cert.UpReferenceIdeal.Value.run m' g')⟩
  · obtain ⟨a0, a1, a2, a3⟩ := hargs c
    refine Eq.trans ?_ (Cert.Gated.whole m c).symm
    rw [a0, a1, a2]
  · obtain ⟨a0, a1, a2, a3⟩ := hargs c
    refine Eq.trans ?_ (Cert.Gated.whole_slabs m c).symm
    rw [a3]

/-- The frame of the reference of the above. -/
theorem frame_gate : Cert.quiescent_UpReferenceIdeal (hUpReferenceIdeal := Cert.UpReferenceIdeal.Gen.facts) := fun m g _ =>
  (θ_run Cert.UpReferenceIdeal.defs _ _).mono (fun r h => ⟨fun c => (h c).2.2, sem_eq_zero_of_no_sems rfl r.2⟩) (Cert.UpReferenceIdeal.Value.run m g)

/-- The second product of the feed-forward part. -/
theorem down : Cert.algebraic_DownIdeal_DownReferenceIdeal (hDownIdeal := Cert.DownIdeal.Gen.facts) (hDownReferenceIdeal := Cert.DownReferenceIdeal.Gen.facts) := by
  intro m g m' g' _ hargs
  refine ⟨fun c => (Cert.DownIdeal.Gen.dats m 0 c).arrAt 2 Cert.DownIdeal.cfg0.N, Cert.DownIdeal.Value.run_blocks m g,
    (θ_run Cert.DownReferenceIdeal.defs _ _).mono (fun r h c => ⟨(h c).1.trans ?_, (h c).2⟩) (Cert.DownReferenceIdeal.Value.run m' g')⟩
  obtain ⟨a0, a1⟩ := hargs c
  refine Eq.trans ?_ (Cert.DownProduct.whole m c).symm
  rw [a0, a1]

/-- The frame of the reference of the above. -/
theorem frame_down : Cert.quiescent_DownReferenceIdeal (hDownReferenceIdeal := Cert.DownReferenceIdeal.Gen.facts) := fun m g _ =>
  (θ_run Cert.DownReferenceIdeal.defs _ _).mono (fun r h => ⟨fun c => (h c).2, sem_eq_zero_of_no_sems rfl r.2⟩) (Cert.DownReferenceIdeal.Value.run m g)

/-- The gated output of the first layer's mixer. -/
theorem glu : Cert.algebraic_GluIdeal_GluReferenceIdeal (hGluIdeal := Cert.GluIdeal.Gen.facts) (hGluReferenceIdeal := Cert.GluReferenceIdeal.Gen.facts) := by
  intro m g m' g' _ hargs
  refine ⟨fun c => (Cert.GluIdeal.Gen.dats m 0 c).arrAt 5 Cert.GluIdeal.cfg0.N, Cert.GluIdeal.Value.run_blocks m g,
    (θ_run Cert.GluReferenceIdeal.defs _ _).mono (fun r h c => ⟨(h c).1.trans ?_, (h c).2⟩) (Cert.GluReferenceIdeal.Value.run m' g')⟩
  obtain ⟨a0, a1, a2, a3, a4⟩ := hargs c
  refine Eq.trans ?_ (Cert.Glu1.whole m c).symm
  rw [a0, a1, a2, a3, a4]

/-- The frame of the reference of the above. -/
theorem frame_glu : Cert.quiescent_GluReferenceIdeal (hGluReferenceIdeal := Cert.GluReferenceIdeal.Gen.facts) := fun m g _ =>
  (θ_run Cert.GluReferenceIdeal.defs _ _).mono (fun r h => ⟨fun c => (h c).2, sem_eq_zero_of_no_sems rfl r.2⟩) (Cert.GluReferenceIdeal.Value.run m g)

/-- The attention's output projection. -/
theorem project : Cert.algebraic_OutIdeal_OutReferenceIdeal (hOutIdeal := Cert.OutIdeal.Gen.facts) (hOutReferenceIdeal := Cert.OutReferenceIdeal.Gen.facts) := by
  intro m g m' g' _ hargs
  refine ⟨fun c => (Cert.OutIdeal.Gen.dats m 0 c).arrAt 3 Cert.OutIdeal.cfg0.N, Cert.OutIdeal.Value.run_blocks m g,
    (θ_run Cert.OutReferenceIdeal.defs _ _).mono (fun r h c => ⟨(h c).1.trans ?_, (h c).2⟩) (Cert.OutReferenceIdeal.Value.run m' g')⟩
  obtain ⟨a0, a1, a2⟩ := hargs c
  refine Eq.trans ?_ (Cert.OutProduct.whole m c).symm
  rw [a0, a1, a2]

/-- The frame of the reference of the above. -/
theorem frame_project : Cert.quiescent_OutReferenceIdeal (hOutReferenceIdeal := Cert.OutReferenceIdeal.Gen.facts) := fun m g _ =>
  (θ_run Cert.OutReferenceIdeal.defs _ _).mono (fun r h => ⟨fun c => (h c).2, sem_eq_zero_of_no_sems rfl r.2⟩) (Cert.OutReferenceIdeal.Value.run m g)

/-- The trunk's last residual sum, which is its result. -/
theorem residual : Cert.algebraic_ResidIdeal_ResidReferenceIdeal (hResidIdeal := Cert.ResidIdeal.Gen.facts) (hResidReferenceIdeal := Cert.ResidReferenceIdeal.Gen.facts) := by
  intro m g m' g' _ hargs
  refine ⟨fun c => (Cert.ResidIdeal.Gen.dats m 0 c).arrAt 5 Cert.ResidIdeal.cfg0.N, Cert.ResidIdeal.Value.run_blocks m g,
    (θ_run Cert.ResidReferenceIdeal.defs _ _).mono (fun r h c => ⟨(h c).1.trans ?_, (h c).2⟩) (Cert.ResidReferenceIdeal.Value.run m' g')⟩
  obtain ⟨a0, a1, a2, a3, a4⟩ := hargs c
  refine Eq.trans ?_ (Cert.Rows.whole m c).symm
  rw [a0, a1, a2, a3, a4]

/-- The frame of the reference of the above. -/
theorem frame_residual : Cert.quiescent_ResidReferenceIdeal (hResidReferenceIdeal := Cert.ResidReferenceIdeal.Gen.facts) := fun m g _ =>
  (θ_run Cert.ResidReferenceIdeal.defs _ _).mono (fun r h => ⟨fun c => (h c).2, sem_eq_zero_of_no_sems rfl r.2⟩) (Cert.ResidReferenceIdeal.Value.run m g)

/-- The second product of the first layer, and the two cast matrices. -/
theorem down_first : Cert.algebraic_CastIdeal_CastReferenceIdeal (hCastIdeal := Cert.CastIdeal.Gen.facts) (hCastReferenceIdeal := Cert.CastReferenceIdeal.Gen.facts) := by
  intro m g m' g' _ hargs
  refine ⟨fun c => (Cert.CastIdeal.Gen.dats m 0 c).arrAt 4 Cert.CastIdeal.cfg0.N, fun c => (Cert.CastIdeal.Gen.dats m 0 c).arrAt 5 Cert.CastIdeal.cfg0.N, fun c => (Cert.CastIdeal.Gen.dats m 0 c).arrAt 6 Cert.CastIdeal.cfg0.N, Cert.CastIdeal.Value.run_blocks m g,
    (θ_run Cert.CastReferenceIdeal.defs _ _).mono (fun r h c => ⟨(h c).1.trans ?_, (h c).2.1.trans ?_, (h c).2.2.1.trans ?_, (h c).2.2.2⟩) (Cert.CastReferenceIdeal.Value.run m' g')⟩
  · obtain ⟨a0, a1, a2, a3⟩ := hargs c
    refine Eq.trans ?_ (Cert.CastProduct.whole m c).symm
    rw [a0, a1]
  · obtain ⟨a0, a1, a2, a3⟩ := hargs c
    refine Eq.trans ?_ (Cert.CastProduct.first m c).symm
    rw [a2]
  · obtain ⟨a0, a1, a2, a3⟩ := hargs c
    refine Eq.trans ?_ (Cert.CastProduct.second m c).symm
    rw [a3]

/-- The frame of the reference of the above. -/
theorem frame_down_first : Cert.quiescent_CastReferenceIdeal (hCastReferenceIdeal := Cert.CastReferenceIdeal.Gen.facts) := fun m g _ =>
  (θ_run Cert.CastReferenceIdeal.defs _ _).mono (fun r h => ⟨fun c => (h c).2.2.2, sem_eq_zero_of_no_sems rfl r.2⟩) (Cert.CastReferenceIdeal.Value.run m g)

/-- The norm before the first mixer. -/
theorem norm_first : Cert.algebraic_FirstIdeal_FirstReferenceIdeal (hFirstIdeal := Cert.FirstIdeal.Gen.facts) (hFirstReferenceIdeal := Cert.FirstReferenceIdeal.Gen.facts) := by
  intro m g m' g' _ hargs
  refine ⟨fun c => (Cert.FirstIdeal.Gen.dats m 0 c).arrAt 2 Cert.FirstIdeal.cfg0.N, Cert.FirstIdeal.Value.run_blocks m g,
    (θ_run Cert.FirstReferenceIdeal.defs _ _).mono (fun r h c => ⟨(h c).1.trans ?_, (h c).2⟩) (Cert.FirstReferenceIdeal.Value.run m' g')⟩
  obtain ⟨a0, a1⟩ := hargs c
  refine Eq.trans ?_ (Cert.FirstRows.whole m c).symm
  rw [a0, a1]

/-- The frame of the reference of the above. -/
theorem frame_norm_first : Cert.quiescent_FirstReferenceIdeal (hFirstReferenceIdeal := Cert.FirstReferenceIdeal.Gen.facts) := fun m g _ =>
  (θ_run Cert.FirstReferenceIdeal.defs _ _).mono (fun r h => ⟨fun c => (h c).2, sem_eq_zero_of_no_sems rfl r.2⟩) (Cert.FirstReferenceIdeal.Value.run m g)

/-- The norm after a mixer, of the residual sum. -/
theorem norm_mix : Cert.algebraic_MixIdeal_MixReferenceIdeal (hMixIdeal := Cert.MixIdeal.Gen.facts) (hMixReferenceIdeal := Cert.MixReferenceIdeal.Gen.facts) := by
  intro m g m' g' _ hargs
  refine ⟨fun c => (Cert.MixIdeal.Gen.dats m 0 c).arrAt 4 Cert.MixIdeal.cfg0.N, Cert.MixIdeal.Value.run_blocks m g,
    (θ_run Cert.MixReferenceIdeal.defs _ _).mono (fun r h c => ⟨(h c).1.trans ?_, (h c).2⟩) (Cert.MixReferenceIdeal.Value.run m' g')⟩
  obtain ⟨a0, a1, a2, a3⟩ := hargs c
  refine Eq.trans ?_ (Cert.MixRows.whole m c).symm
  rw [a0, a1, a2, a3]

/-- The frame of the reference of the above. -/
theorem frame_norm_mix : Cert.quiescent_MixReferenceIdeal (hMixReferenceIdeal := Cert.MixReferenceIdeal.Gen.facts) := fun m g _ =>
  (θ_run Cert.MixReferenceIdeal.defs _ _).mono (fun r h => ⟨fun c => (h c).2, sem_eq_zero_of_no_sems rfl r.2⟩) (Cert.MixReferenceIdeal.Value.run m g)

/-- The residual sum between the layers, and its norm. -/
theorem norm_between : Cert.algebraic_BetweenIdeal_BetweenReferenceIdeal (hBetweenIdeal := Cert.BetweenIdeal.Gen.facts) (hBetweenReferenceIdeal := Cert.BetweenReferenceIdeal.Gen.facts) := by
  intro m g m' g' _ hargs
  refine ⟨fun c => (Cert.BetweenIdeal.Gen.dats m 0 c).arrAt 6 Cert.BetweenIdeal.cfg0.N, fun c => (Cert.BetweenIdeal.Gen.dats m 0 c).arrAt 7 Cert.BetweenIdeal.cfg0.N, Cert.BetweenIdeal.Value.run_blocks m g,
    (θ_run Cert.BetweenReferenceIdeal.defs _ _).mono (fun r h c => ⟨(h c).1.trans ?_, (h c).2.1.trans ?_, (h c).2.2⟩) (Cert.BetweenReferenceIdeal.Value.run m' g')⟩
  · obtain ⟨a0, a1, a2, a3, a4, a5⟩ := hargs c
    refine Eq.trans ?_ (Cert.BetweenRows.whole m c).symm
    rw [a0, a1, a2, a3, a4]
  · obtain ⟨a0, a1, a2, a3, a4, a5⟩ := hargs c
    refine Eq.trans ?_ (Cert.BetweenRows.whole_normed m c).symm
    unfold Cert.BetweenReferenceIdeal.Value.res_main_v41; rw [a0, a1, a2, a3, a4, a5]

/-- The frame of the reference of the above. -/
theorem frame_norm_between : Cert.quiescent_BetweenReferenceIdeal (hBetweenReferenceIdeal := Cert.BetweenReferenceIdeal.Gen.facts) := fun m g _ =>
  (θ_run Cert.BetweenReferenceIdeal.defs _ _).mono (fun r h => ⟨fun c => (h c).2.2, sem_eq_zero_of_no_sems rfl r.2⟩) (Cert.BetweenReferenceIdeal.Value.run m g)

/-- The projection to rotated queries, keys and to values. -/
theorem rotate : Cert.algebraic_QkvIdeal_QkvReferenceIdeal (hQkvIdeal := Cert.QkvIdeal.Gen.facts) (hQkvReferenceIdeal := Cert.QkvReferenceIdeal.Gen.facts) := by
  intro m g m' g' _ hargs
  refine ⟨fun c => (Cert.QkvIdeal.Gen.dats m 0 c).arrAt 5 Cert.QkvIdeal.cfg0.N, Cert.QkvIdeal.Value.run_blocks m g,
    (θ_run Cert.QkvReferenceIdeal.defs _ _).mono (fun r h c => ⟨(h c).1.trans ?_, (h c).2⟩) (Cert.QkvReferenceIdeal.Value.run m' g')⟩
  obtain ⟨a0, a1, a2, a3⟩ := hargs c
  refine Eq.trans ?_ (Cert.Rotary.whole m c).symm
  rw [Cert.RotaryRef.result_eq]; rw [a0, a1, a2, a3]

/-- The frame of the reference of the above. -/
theorem frame_rotate : Cert.quiescent_QkvReferenceIdeal (hQkvReferenceIdeal := Cert.QkvReferenceIdeal.Gen.facts) := fun m g _ =>
  (θ_run Cert.QkvReferenceIdeal.defs _ _).mono (fun r h => ⟨fun c => (h c).2, sem_eq_zero_of_no_sems rfl r.2⟩) (Cert.QkvReferenceIdeal.Value.run m g)

theorem claim : Cert.Claim := ⟨Cert.Kernel.Gen.facts, Cert.KernelIdeal.Gen.facts, Cert.ReferenceIdeal.Gen.facts,
  Cert.Up.Gen.facts, Cert.UpIdeal.Gen.facts, Cert.UpReferenceIdeal.Gen.facts,
  Cert.Down.Gen.facts, Cert.DownIdeal.Gen.facts, Cert.DownReferenceIdeal.Gen.facts,
  Cert.Glu.Gen.facts, Cert.GluIdeal.Gen.facts, Cert.GluReferenceIdeal.Gen.facts,
  Cert.Out.Gen.facts, Cert.OutIdeal.Gen.facts, Cert.OutReferenceIdeal.Gen.facts,
  Cert.Resid.Gen.facts, Cert.ResidIdeal.Gen.facts, Cert.ResidReferenceIdeal.Gen.facts,
  Cert.Cast.Gen.facts, Cert.CastIdeal.Gen.facts, Cert.CastReferenceIdeal.Gen.facts,
  Cert.First.Gen.facts, Cert.FirstIdeal.Gen.facts, Cert.FirstReferenceIdeal.Gen.facts,
  Cert.Mix.Gen.facts, Cert.MixIdeal.Gen.facts, Cert.MixReferenceIdeal.Gen.facts,
  Cert.Between.Gen.facts, Cert.BetweenIdeal.Gen.facts, Cert.BetweenReferenceIdeal.Gen.facts,
  Cert.Qkv.Gen.facts, Cert.QkvIdeal.Gen.facts, Cert.QkvReferenceIdeal.Gen.facts,
  Cert.Pre_finite_scores.Gen.facts,
  fun m g _ => Cert.Kernel.Gen.frame m g,
  fun m g _ => Cert.KernelIdeal.Gen.frame m g,
  fun m g _ => Cert.KernelIdeal.Gen.frame m g,
  fun m g _ => frame_reference m g trivial,
  fun m g _ => frame_reference m g trivial,
  fun m g _ => Cert.Up.Gen.frame m g, fun m g _ => Cert.UpIdeal.Gen.frame m g, frame_gate,
  fun m g _ => Cert.Down.Gen.frame m g, fun m g _ => Cert.DownIdeal.Gen.frame m g, frame_down,
  fun m g _ => Cert.Glu.Gen.frame m g, fun m g _ => Cert.GluIdeal.Gen.frame m g, frame_glu,
  fun m g _ => Cert.Out.Gen.frame m g, fun m g _ => Cert.OutIdeal.Gen.frame m g, frame_project,
  fun m g _ => Cert.Resid.Gen.frame m g, fun m g _ => Cert.ResidIdeal.Gen.frame m g, frame_residual,
  fun m g _ => Cert.Cast.Gen.frame m g, fun m g _ => Cert.CastIdeal.Gen.frame m g, frame_down_first,
  fun m g _ => Cert.First.Gen.frame m g, fun m g _ => Cert.FirstIdeal.Gen.frame m g, frame_norm_first,
  fun m g _ => Cert.Mix.Gen.frame m g, fun m g _ => Cert.MixIdeal.Gen.frame m g, frame_norm_mix,
  fun m g _ => Cert.Between.Gen.frame m g, fun m g _ => Cert.BetweenIdeal.Gen.frame m g, frame_norm_between,
  fun m g _ => Cert.Qkv.Gen.frame m g, fun m g _ => Cert.QkvIdeal.Gen.frame m g, frame_rotate,
  ⟨IdealRules.named_const.statement Cert.KernelIdeal.κ "qscale" .f32 0x3E38AA3B#32 (((1 / 8) * (Real.log 2)⁻¹ : ℝ) : EReal) rfl,
   IdealRules.named_const.statement Cert.KernelIdeal.κ "log2e" .f32 0x3FB8AA3B#32 (((Real.log 2)⁻¹ : ℝ) : EReal) rfl⟩,
  attention,
  trivial, gate,
  trivial, down,
  trivial, glu,
  trivial, project,
  trivial, residual,
  trivial, down_first,
  trivial, norm_first,
  trivial, norm_mix,
  trivial, norm_between,
  trivial, rotate⟩

end Cert.Proof

end
